-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x1024 : Shape := ⟨2, ![4096, 1024]⟩
abbrev S2048x1024 : Shape := ⟨2, ![2048, 1024]⟩
abbrev S32 : Shape := ⟨1, ![32]⟩
abbrev S_ : Shape := ⟨0, ![]⟩
abbrev S1 : Shape := ⟨1, ![1]⟩
abbrev S64x1024 : Shape := ⟨2, ![64, 1024]⟩
abbrev S1x64x1024 : Shape := ⟨3, ![1, 64, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .f32⟩
  | .local _ .vmem, ⟨0, _⟩ => ⟨S4096x1024, .f32⟩
  | .local _ .vmem, ⟨1, _⟩ => ⟨S2048x1024, .f32⟩
  | .local _ .vmem, ⟨2, _⟩ => ⟨S2048x1024, .f32⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 161 → Bool
  | ⟨i, _⟩ => dmaSemScopedAt i

abbrev sig : RefSig :=
  (ofTc nBuf bufTy 1 161 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v13 : BitVec 32 := Scalar.muli v6 c2_i32_7
  let v14 : BitVec 32 := Scalar.addi c0_i32 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v15 : BitVec 32 := Scalar.muli v5 c1_i32_8
  let v16 : BitVec 32 := Scalar.addi v14 v15
  v16.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v17 : BitVec 32 := Scalar.muli v2 c2_i32_10
  let v18 : BitVec 32 := Scalar.addi c0_i32_11 v17
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v19 : BitVec 32 := Scalar.muli v7 c1_i32_12
  let v20 : BitVec 32 := Scalar.addi v18 v19
  v20.toNat
def k0_off1 (d0 : Dev nD) (c0_i32_14 : BitVec 32) : Fin 3 → Nat :=
  let c0_i32_15 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  let v21 : BitVec 32 := Scalar.addi v11 c0_i32_14
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c1024_i32 : BitVec 32 := 1024#32
  let v9 : BitVec 32 := Scalar.muli v8 c1024_i32
  ![0, v21.toNat, v9.toNat]
def k0_dev3 (d0 : Dev nD) : Nat :=
  let c0_i32_19 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_18 : BitVec 32 := 2#32
  let v22 : BitVec 32 := Scalar.muli v6 c2_i32_18
  let v23 : BitVec 32 := Scalar.addi c0_i32_19 v22
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v24 : BitVec 32 := Scalar.muli v5 c1_i32_20
  let v25 : BitVec 32 := Scalar.addi v23 v24
  v25.toNat
def k0_off2 (d0 : Dev nD) (c0_i32_23 : BitVec 32) : Fin 3 → Nat :=
  let c0_i32_24 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  let v33 : BitVec 32 := Scalar.addi v11 c0_i32_23
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_5 : BitVec 32 := 1024#32
  let v10 : BitVec 32 := Scalar.muli v2 c1024_i32_5
  ![0, v33.toNat, v10.toNat]
def k0_dev4 (d0 : Dev nD) : Nat :=
  let c0_i32_32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_31 : BitVec 32 := 2#32
  let v40 : BitVec 32 := Scalar.muli v6 c2_i32_31
  let v41 : BitVec 32 := Scalar.addi c0_i32_32 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_33 : BitVec 32 := 1#32
  let v42 : BitVec 32 := Scalar.muli v5 c1_i32_33
  let v43 : BitVec 32 := Scalar.addi v41 v42
  v43.toNat
def k0_dev5 (d0 : Dev nD) : Nat :=
  let c0_i32_45 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_44 : BitVec 32 := 2#32
  let v58 : BitVec 32 := Scalar.muli v6 c2_i32_44
  let v59 : BitVec 32 := Scalar.addi c0_i32_45 v58
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v60 : BitVec 32 := Scalar.muli v5 c1_i32_46
  let v61 : BitVec 32 := Scalar.addi v59 v60
  v61.toNat
def k0_dev6 (d0 : Dev nD) : Nat :=
  let c0_i32_57 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_56 : BitVec 32 := 2#32
  let v76 : BitVec 32 := Scalar.muli v6 c2_i32_56
  let v77 : BitVec 32 := Scalar.addi c0_i32_57 v76
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_58 : BitVec 32 := 1#32
  let v78 : BitVec 32 := Scalar.muli v5 c1_i32_58
  let v79 : BitVec 32 := Scalar.addi v77 v78
  v79.toNat
def k0_dev7 (d0 : Dev nD) : Nat :=
  let c0_i32_69 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_68 : BitVec 32 := 2#32
  let v94 : BitVec 32 := Scalar.muli v6 c2_i32_68
  let v95 : BitVec 32 := Scalar.addi c0_i32_69 v94
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_70 : BitVec 32 := 1#32
  let v96 : BitVec 32 := Scalar.muli v5 c1_i32_70
  let v97 : BitVec 32 := Scalar.addi v95 v96
  v97.toNat
def k0_dev8 (d0 : Dev nD) : Nat :=
  let c0_i32_81 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_80 : BitVec 32 := 2#32
  let v112 : BitVec 32 := Scalar.muli v6 c2_i32_80
  let v113 : BitVec 32 := Scalar.addi c0_i32_81 v112
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_82 : BitVec 32 := 1#32
  let v114 : BitVec 32 := Scalar.muli v5 c1_i32_82
  let v115 : BitVec 32 := Scalar.addi v113 v114
  v115.toNat
def k0_dev9 (d0 : Dev nD) : Nat :=
  let c0_i32_93 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_92 : BitVec 32 := 2#32
  let v130 : BitVec 32 := Scalar.muli v6 c2_i32_92
  let v131 : BitVec 32 := Scalar.addi c0_i32_93 v130
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_94 : BitVec 32 := 1#32
  let v132 : BitVec 32 := Scalar.muli v5 c1_i32_94
  let v133 : BitVec 32 := Scalar.addi v131 v132
  v133.toNat
def k0_dev10 (d0 : Dev nD) : Nat :=
  let c0_i32_105 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_104 : BitVec 32 := 2#32
  let v148 : BitVec 32 := Scalar.muli v6 c2_i32_104
  let v149 : BitVec 32 := Scalar.addi c0_i32_105 v148
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_106 : BitVec 32 := 1#32
  let v150 : BitVec 32 := Scalar.muli v5 c1_i32_106
  let v151 : BitVec 32 := Scalar.addi v149 v150
  v151.toNat
def k0_dev11 (d0 : Dev nD) : Nat :=
  let c0_i32_117 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_116 : BitVec 32 := 2#32
  let v166 : BitVec 32 := Scalar.muli v6 c2_i32_116
  let v167 : BitVec 32 := Scalar.addi c0_i32_117 v166
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_118 : BitVec 32 := 1#32
  let v168 : BitVec 32 := Scalar.muli v5 c1_i32_118
  let v169 : BitVec 32 := Scalar.addi v167 v168
  v169.toNat
def k0_dev12 (d0 : Dev nD) : Nat :=
  let c0_i32_129 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_128 : BitVec 32 := 2#32
  let v184 : BitVec 32 := Scalar.muli v6 c2_i32_128
  let v185 : BitVec 32 := Scalar.addi c0_i32_129 v184
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_130 : BitVec 32 := 1#32
  let v186 : BitVec 32 := Scalar.muli v5 c1_i32_130
  let v187 : BitVec 32 := Scalar.addi v185 v186
  v187.toNat
def k0_dev13 (d0 : Dev nD) : Nat :=
  let c0_i32_141 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_140 : BitVec 32 := 2#32
  let v202 : BitVec 32 := Scalar.muli v6 c2_i32_140
  let v203 : BitVec 32 := Scalar.addi c0_i32_141 v202
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_142 : BitVec 32 := 1#32
  let v204 : BitVec 32 := Scalar.muli v5 c1_i32_142
  let v205 : BitVec 32 := Scalar.addi v203 v204
  v205.toNat
def k0_dev14 (d0 : Dev nD) : Nat :=
  let c0_i32_153 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_152 : BitVec 32 := 2#32
  let v220 : BitVec 32 := Scalar.muli v6 c2_i32_152
  let v221 : BitVec 32 := Scalar.addi c0_i32_153 v220
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_154 : BitVec 32 := 1#32
  let v222 : BitVec 32 := Scalar.muli v5 c1_i32_154
  let v223 : BitVec 32 := Scalar.addi v221 v222
  v223.toNat
def k0_dev15 (d0 : Dev nD) : Nat :=
  let c0_i32_165 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_164 : BitVec 32 := 2#32
  let v238 : BitVec 32 := Scalar.muli v6 c2_i32_164
  let v239 : BitVec 32 := Scalar.addi c0_i32_165 v238
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_166 : BitVec 32 := 1#32
  let v240 : BitVec 32 := Scalar.muli v5 c1_i32_166
  let v241 : BitVec 32 := Scalar.addi v239 v240
  v241.toNat
def k0_dev16 (d0 : Dev nD) : Nat :=
  let c0_i32_177 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_176 : BitVec 32 := 2#32
  let v256 : BitVec 32 := Scalar.muli v6 c2_i32_176
  let v257 : BitVec 32 := Scalar.addi c0_i32_177 v256
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_178 : BitVec 32 := 1#32
  let v258 : BitVec 32 := Scalar.muli v5 c1_i32_178
  let v259 : BitVec 32 := Scalar.addi v257 v258
  v259.toNat
def k0_dev17 (d0 : Dev nD) : Nat :=
  let c0_i32_189 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_188 : BitVec 32 := 2#32
  let v274 : BitVec 32 := Scalar.muli v6 c2_i32_188
  let v275 : BitVec 32 := Scalar.addi c0_i32_189 v274
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_190 : BitVec 32 := 1#32
  let v276 : BitVec 32 := Scalar.muli v5 c1_i32_190
  let v277 : BitVec 32 := Scalar.addi v275 v276
  v277.toNat
def k0_dev18 (d0 : Dev nD) : Nat :=
  let c0_i32_201 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_200 : BitVec 32 := 2#32
  let v292 : BitVec 32 := Scalar.muli v6 c2_i32_200
  let v293 : BitVec 32 := Scalar.addi c0_i32_201 v292
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_202 : BitVec 32 := 1#32
  let v294 : BitVec 32 := Scalar.muli v5 c1_i32_202
  let v295 : BitVec 32 := Scalar.addi v293 v294
  v295.toNat
def k0_dev19 (d0 : Dev nD) : Nat :=
  let c0_i32_214 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_213 : BitVec 32 := 2#32
  let v310 : BitVec 32 := Scalar.muli v6 c2_i32_213
  let v311 : BitVec 32 := Scalar.addi c0_i32_214 v310
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_215 : BitVec 32 := 1#32
  let v312 : BitVec 32 := Scalar.muli v5 c1_i32_215
  let v313 : BitVec 32 := Scalar.addi v311 v312
  v313.toNat
def k0_dev20 (d0 : Dev nD) : Nat :=
  let c0_i32_226 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_225 : BitVec 32 := 2#32
  let v328 : BitVec 32 := Scalar.muli v6 c2_i32_225
  let v329 : BitVec 32 := Scalar.addi c0_i32_226 v328
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_227 : BitVec 32 := 1#32
  let v330 : BitVec 32 := Scalar.muli v5 c1_i32_227
  let v331 : BitVec 32 := Scalar.addi v329 v330
  v331.toNat
def k0_dev21 (d0 : Dev nD) : Nat :=
  let c0_i32_238 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_237 : BitVec 32 := 2#32
  let v346 : BitVec 32 := Scalar.muli v6 c2_i32_237
  let v347 : BitVec 32 := Scalar.addi c0_i32_238 v346
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_239 : BitVec 32 := 1#32
  let v348 : BitVec 32 := Scalar.muli v5 c1_i32_239
  let v349 : BitVec 32 := Scalar.addi v347 v348
  v349.toNat
def k0_dev22 (d0 : Dev nD) : Nat :=
  let c0_i32_250 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_249 : BitVec 32 := 2#32
  let v364 : BitVec 32 := Scalar.muli v6 c2_i32_249
  let v365 : BitVec 32 := Scalar.addi c0_i32_250 v364
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_251 : BitVec 32 := 1#32
  let v366 : BitVec 32 := Scalar.muli v5 c1_i32_251
  let v367 : BitVec 32 := Scalar.addi v365 v366
  v367.toNat
def k0_dev23 (d0 : Dev nD) : Nat :=
  let c0_i32_262 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_261 : BitVec 32 := 2#32
  let v382 : BitVec 32 := Scalar.muli v6 c2_i32_261
  let v383 : BitVec 32 := Scalar.addi c0_i32_262 v382
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_263 : BitVec 32 := 1#32
  let v384 : BitVec 32 := Scalar.muli v5 c1_i32_263
  let v385 : BitVec 32 := Scalar.addi v383 v384
  v385.toNat
def k0_dev24 (d0 : Dev nD) : Nat :=
  let c0_i32_274 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_273 : BitVec 32 := 2#32
  let v400 : BitVec 32 := Scalar.muli v6 c2_i32_273
  let v401 : BitVec 32 := Scalar.addi c0_i32_274 v400
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_275 : BitVec 32 := 1#32
  let v402 : BitVec 32 := Scalar.muli v5 c1_i32_275
  let v403 : BitVec 32 := Scalar.addi v401 v402
  v403.toNat
def k0_dev25 (d0 : Dev nD) : Nat :=
  let c0_i32_286 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_285 : BitVec 32 := 2#32
  let v418 : BitVec 32 := Scalar.muli v6 c2_i32_285
  let v419 : BitVec 32 := Scalar.addi c0_i32_286 v418
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_287 : BitVec 32 := 1#32
  let v420 : BitVec 32 := Scalar.muli v5 c1_i32_287
  let v421 : BitVec 32 := Scalar.addi v419 v420
  v421.toNat
def k0_dev26 (d0 : Dev nD) : Nat :=
  let c0_i32_298 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_297 : BitVec 32 := 2#32
  let v436 : BitVec 32 := Scalar.muli v6 c2_i32_297
  let v437 : BitVec 32 := Scalar.addi c0_i32_298 v436
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_299 : BitVec 32 := 1#32
  let v438 : BitVec 32 := Scalar.muli v5 c1_i32_299
  let v439 : BitVec 32 := Scalar.addi v437 v438
  v439.toNat
def k0_dev27 (d0 : Dev nD) : Nat :=
  let c0_i32_310 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_309 : BitVec 32 := 2#32
  let v454 : BitVec 32 := Scalar.muli v6 c2_i32_309
  let v455 : BitVec 32 := Scalar.addi c0_i32_310 v454
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_311 : BitVec 32 := 1#32
  let v456 : BitVec 32 := Scalar.muli v5 c1_i32_311
  let v457 : BitVec 32 := Scalar.addi v455 v456
  v457.toNat
def k0_dev28 (d0 : Dev nD) : Nat :=
  let c0_i32_322 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_321 : BitVec 32 := 2#32
  let v472 : BitVec 32 := Scalar.muli v6 c2_i32_321
  let v473 : BitVec 32 := Scalar.addi c0_i32_322 v472
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_323 : BitVec 32 := 1#32
  let v474 : BitVec 32 := Scalar.muli v5 c1_i32_323
  let v475 : BitVec 32 := Scalar.addi v473 v474
  v475.toNat
def k0_dev29 (d0 : Dev nD) : Nat :=
  let c0_i32_334 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_333 : BitVec 32 := 2#32
  let v490 : BitVec 32 := Scalar.muli v6 c2_i32_333
  let v491 : BitVec 32 := Scalar.addi c0_i32_334 v490
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_335 : BitVec 32 := 1#32
  let v492 : BitVec 32 := Scalar.muli v5 c1_i32_335
  let v493 : BitVec 32 := Scalar.addi v491 v492
  v493.toNat
def k0_dev30 (d0 : Dev nD) : Nat :=
  let c0_i32_346 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_345 : BitVec 32 := 2#32
  let v508 : BitVec 32 := Scalar.muli v6 c2_i32_345
  let v509 : BitVec 32 := Scalar.addi c0_i32_346 v508
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_347 : BitVec 32 := 1#32
  let v510 : BitVec 32 := Scalar.muli v5 c1_i32_347
  let v511 : BitVec 32 := Scalar.addi v509 v510
  v511.toNat
def k0_dev31 (d0 : Dev nD) : Nat :=
  let c0_i32_358 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_357 : BitVec 32 := 2#32
  let v526 : BitVec 32 := Scalar.muli v6 c2_i32_357
  let v527 : BitVec 32 := Scalar.addi c0_i32_358 v526
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_359 : BitVec 32 := 1#32
  let v528 : BitVec 32 := Scalar.muli v5 c1_i32_359
  let v529 : BitVec 32 := Scalar.addi v527 v528
  v529.toNat
def k0_dev32 (d0 : Dev nD) : Nat :=
  let c0_i32_370 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_369 : BitVec 32 := 2#32
  let v544 : BitVec 32 := Scalar.muli v6 c2_i32_369
  let v545 : BitVec 32 := Scalar.addi c0_i32_370 v544
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_371 : BitVec 32 := 1#32
  let v546 : BitVec 32 := Scalar.muli v5 c1_i32_371
  let v547 : BitVec 32 := Scalar.addi v545 v546
  v547.toNat
def k0_dev33 (d0 : Dev nD) : Nat :=
  let c0_i32_382 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_381 : BitVec 32 := 2#32
  let v562 : BitVec 32 := Scalar.muli v6 c2_i32_381
  let v563 : BitVec 32 := Scalar.addi c0_i32_382 v562
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_383 : BitVec 32 := 1#32
  let v564 : BitVec 32 := Scalar.muli v5 c1_i32_383
  let v565 : BitVec 32 := Scalar.addi v563 v564
  v565.toNat
def k0_dev34 (d0 : Dev nD) : Nat :=
  let c0_i32_394 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_393 : BitVec 32 := 2#32
  let v580 : BitVec 32 := Scalar.muli v6 c2_i32_393
  let v581 : BitVec 32 := Scalar.addi c0_i32_394 v580
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_395 : BitVec 32 := 1#32
  let v582 : BitVec 32 := Scalar.muli v5 c1_i32_395
  let v583 : BitVec 32 := Scalar.addi v581 v582
  v583.toNat
def k0_off3 (d0 : Dev nD) (c0_i32_420 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  let v616 : BitVec 32 := Scalar.addi v11 c0_i32_420
  let v617 : Index := Scalar.indexCast v616
  let c0_421 : Index := 0#32
  ![v617.toNat, 0]
def k0_off4 (d0 : Dev nD) (c0_i32_423 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  let v620 : BitVec 32 := Scalar.addi v11 c0_i32_423
  let c0_i32_429 : BitVec 32 := 0#32
  ![v620.toNat, 0]
def k0_dev35 (d0 : Dev nD) : Nat :=
  let c0_i32_427 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_426 : BitVec 32 := 2#32
  let v621 : BitVec 32 := Scalar.muli v2 c2_i32_426
  let v622 : BitVec 32 := Scalar.addi c0_i32_427 v621
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_428 : BitVec 32 := 1#32
  let v623 : BitVec 32 := Scalar.muli v7 c1_i32_428
  let v624 : BitVec 32 := Scalar.addi v622 v623
  v624.toNat
def k0_dev36 (d0 : Dev nD) : Nat :=
  let c0_i32_455 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_454 : BitVec 32 := 2#32
  let v655 : BitVec 32 := Scalar.muli v2 c2_i32_454
  let v656 : BitVec 32 := Scalar.addi c0_i32_455 v655
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_456 : BitVec 32 := 1#32
  let v657 : BitVec 32 := Scalar.muli v7 c1_i32_456
  let v658 : BitVec 32 := Scalar.addi v656 v657
  v658.toNat
def k0_dev37 (d0 : Dev nD) : Nat :=
  let c0_i32_483 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_482 : BitVec 32 := 2#32
  let v689 : BitVec 32 := Scalar.muli v2 c2_i32_482
  let v690 : BitVec 32 := Scalar.addi c0_i32_483 v689
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_484 : BitVec 32 := 1#32
  let v691 : BitVec 32 := Scalar.muli v7 c1_i32_484
  let v692 : BitVec 32 := Scalar.addi v690 v691
  v692.toNat
def k0_dev38 (d0 : Dev nD) : Nat :=
  let c0_i32_511 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_510 : BitVec 32 := 2#32
  let v723 : BitVec 32 := Scalar.muli v2 c2_i32_510
  let v724 : BitVec 32 := Scalar.addi c0_i32_511 v723
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_512 : BitVec 32 := 1#32
  let v725 : BitVec 32 := Scalar.muli v7 c1_i32_512
  let v726 : BitVec 32 := Scalar.addi v724 v725
  v726.toNat
def k0_dev39 (d0 : Dev nD) : Nat :=
  let c0_i32_539 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_538 : BitVec 32 := 2#32
  let v757 : BitVec 32 := Scalar.muli v2 c2_i32_538
  let v758 : BitVec 32 := Scalar.addi c0_i32_539 v757
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_540 : BitVec 32 := 1#32
  let v759 : BitVec 32 := Scalar.muli v7 c1_i32_540
  let v760 : BitVec 32 := Scalar.addi v758 v759
  v760.toNat
def k0_dev40 (d0 : Dev nD) : Nat :=
  let c0_i32_567 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_566 : BitVec 32 := 2#32
  let v791 : BitVec 32 := Scalar.muli v2 c2_i32_566
  let v792 : BitVec 32 := Scalar.addi c0_i32_567 v791
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_568 : BitVec 32 := 1#32
  let v793 : BitVec 32 := Scalar.muli v7 c1_i32_568
  let v794 : BitVec 32 := Scalar.addi v792 v793
  v794.toNat
def k0_dev41 (d0 : Dev nD) : Nat :=
  let c0_i32_595 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_594 : BitVec 32 := 2#32
  let v825 : BitVec 32 := Scalar.muli v2 c2_i32_594
  let v826 : BitVec 32 := Scalar.addi c0_i32_595 v825
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_596 : BitVec 32 := 1#32
  let v827 : BitVec 32 := Scalar.muli v7 c1_i32_596
  let v828 : BitVec 32 := Scalar.addi v826 v827
  v828.toNat
def k0_dev42 (d0 : Dev nD) : Nat :=
  let c0_i32_623 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_622 : BitVec 32 := 2#32
  let v859 : BitVec 32 := Scalar.muli v2 c2_i32_622
  let v860 : BitVec 32 := Scalar.addi c0_i32_623 v859
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_624 : BitVec 32 := 1#32
  let v861 : BitVec 32 := Scalar.muli v7 c1_i32_624
  let v862 : BitVec 32 := Scalar.addi v860 v861
  v862.toNat
def k0_dev43 (d0 : Dev nD) : Nat :=
  let c0_i32_651 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_650 : BitVec 32 := 2#32
  let v893 : BitVec 32 := Scalar.muli v2 c2_i32_650
  let v894 : BitVec 32 := Scalar.addi c0_i32_651 v893
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_652 : BitVec 32 := 1#32
  let v895 : BitVec 32 := Scalar.muli v7 c1_i32_652
  let v896 : BitVec 32 := Scalar.addi v894 v895
  v896.toNat
def k0_dev44 (d0 : Dev nD) : Nat :=
  let c0_i32_679 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_678 : BitVec 32 := 2#32
  let v927 : BitVec 32 := Scalar.muli v2 c2_i32_678
  let v928 : BitVec 32 := Scalar.addi c0_i32_679 v927
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_680 : BitVec 32 := 1#32
  let v929 : BitVec 32 := Scalar.muli v7 c1_i32_680
  let v930 : BitVec 32 := Scalar.addi v928 v929
  v930.toNat
def k0_dev45 (d0 : Dev nD) : Nat :=
  let c0_i32_707 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_706 : BitVec 32 := 2#32
  let v961 : BitVec 32 := Scalar.muli v2 c2_i32_706
  let v962 : BitVec 32 := Scalar.addi c0_i32_707 v961
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_708 : BitVec 32 := 1#32
  let v963 : BitVec 32 := Scalar.muli v7 c1_i32_708
  let v964 : BitVec 32 := Scalar.addi v962 v963
  v964.toNat
def k0_dev46 (d0 : Dev nD) : Nat :=
  let c0_i32_735 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_734 : BitVec 32 := 2#32
  let v995 : BitVec 32 := Scalar.muli v2 c2_i32_734
  let v996 : BitVec 32 := Scalar.addi c0_i32_735 v995
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_736 : BitVec 32 := 1#32
  let v997 : BitVec 32 := Scalar.muli v7 c1_i32_736
  let v998 : BitVec 32 := Scalar.addi v996 v997
  v998.toNat
def k0_dev47 (d0 : Dev nD) : Nat :=
  let c0_i32_763 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_762 : BitVec 32 := 2#32
  let v1029 : BitVec 32 := Scalar.muli v2 c2_i32_762
  let v1030 : BitVec 32 := Scalar.addi c0_i32_763 v1029
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_764 : BitVec 32 := 1#32
  let v1031 : BitVec 32 := Scalar.muli v7 c1_i32_764
  let v1032 : BitVec 32 := Scalar.addi v1030 v1031
  v1032.toNat
def k0_dev48 (d0 : Dev nD) : Nat :=
  let c0_i32_791 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_790 : BitVec 32 := 2#32
  let v1063 : BitVec 32 := Scalar.muli v2 c2_i32_790
  let v1064 : BitVec 32 := Scalar.addi c0_i32_791 v1063
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_792 : BitVec 32 := 1#32
  let v1065 : BitVec 32 := Scalar.muli v7 c1_i32_792
  let v1066 : BitVec 32 := Scalar.addi v1064 v1065
  v1066.toNat
def k0_dev49 (d0 : Dev nD) : Nat :=
  let c0_i32_819 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_818 : BitVec 32 := 2#32
  let v1097 : BitVec 32 := Scalar.muli v2 c2_i32_818
  let v1098 : BitVec 32 := Scalar.addi c0_i32_819 v1097
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_820 : BitVec 32 := 1#32
  let v1099 : BitVec 32 := Scalar.muli v7 c1_i32_820
  let v1100 : BitVec 32 := Scalar.addi v1098 v1099
  v1100.toNat
def k0_dev50 (d0 : Dev nD) : Nat :=
  let c0_i32_847 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_846 : BitVec 32 := 2#32
  let v1131 : BitVec 32 := Scalar.muli v2 c2_i32_846
  let v1132 : BitVec 32 := Scalar.addi c0_i32_847 v1131
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_848 : BitVec 32 := 1#32
  let v1133 : BitVec 32 := Scalar.muli v7 c1_i32_848
  let v1134 : BitVec 32 := Scalar.addi v1132 v1133
  v1134.toNat
def k0_dev51 (d0 : Dev nD) : Nat :=
  let c0_i32_875 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_874 : BitVec 32 := 2#32
  let v1165 : BitVec 32 := Scalar.muli v2 c2_i32_874
  let v1166 : BitVec 32 := Scalar.addi c0_i32_875 v1165
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_876 : BitVec 32 := 1#32
  let v1167 : BitVec 32 := Scalar.muli v7 c1_i32_876
  let v1168 : BitVec 32 := Scalar.addi v1166 v1167
  v1168.toNat
def k0_dev52 (d0 : Dev nD) : Nat :=
  let c0_i32_903 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_902 : BitVec 32 := 2#32
  let v1199 : BitVec 32 := Scalar.muli v2 c2_i32_902
  let v1200 : BitVec 32 := Scalar.addi c0_i32_903 v1199
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_904 : BitVec 32 := 1#32
  let v1201 : BitVec 32 := Scalar.muli v7 c1_i32_904
  let v1202 : BitVec 32 := Scalar.addi v1200 v1201
  v1202.toNat
def k0_dev53 (d0 : Dev nD) : Nat :=
  let c0_i32_931 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_930 : BitVec 32 := 2#32
  let v1233 : BitVec 32 := Scalar.muli v2 c2_i32_930
  let v1234 : BitVec 32 := Scalar.addi c0_i32_931 v1233
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_932 : BitVec 32 := 1#32
  let v1235 : BitVec 32 := Scalar.muli v7 c1_i32_932
  let v1236 : BitVec 32 := Scalar.addi v1234 v1235
  v1236.toNat
def k0_dev54 (d0 : Dev nD) : Nat :=
  let c0_i32_959 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_958 : BitVec 32 := 2#32
  let v1267 : BitVec 32 := Scalar.muli v2 c2_i32_958
  let v1268 : BitVec 32 := Scalar.addi c0_i32_959 v1267
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_960 : BitVec 32 := 1#32
  let v1269 : BitVec 32 := Scalar.muli v7 c1_i32_960
  let v1270 : BitVec 32 := Scalar.addi v1268 v1269
  v1270.toNat
def k0_dev55 (d0 : Dev nD) : Nat :=
  let c0_i32_987 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_986 : BitVec 32 := 2#32
  let v1301 : BitVec 32 := Scalar.muli v2 c2_i32_986
  let v1302 : BitVec 32 := Scalar.addi c0_i32_987 v1301
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_988 : BitVec 32 := 1#32
  let v1303 : BitVec 32 := Scalar.muli v7 c1_i32_988
  let v1304 : BitVec 32 := Scalar.addi v1302 v1303
  v1304.toNat
def k0_dev56 (d0 : Dev nD) : Nat :=
  let c0_i32_1015 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1014 : BitVec 32 := 2#32
  let v1335 : BitVec 32 := Scalar.muli v2 c2_i32_1014
  let v1336 : BitVec 32 := Scalar.addi c0_i32_1015 v1335
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1016 : BitVec 32 := 1#32
  let v1337 : BitVec 32 := Scalar.muli v7 c1_i32_1016
  let v1338 : BitVec 32 := Scalar.addi v1336 v1337
  v1338.toNat
def k0_dev57 (d0 : Dev nD) : Nat :=
  let c0_i32_1043 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1042 : BitVec 32 := 2#32
  let v1369 : BitVec 32 := Scalar.muli v2 c2_i32_1042
  let v1370 : BitVec 32 := Scalar.addi c0_i32_1043 v1369
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1044 : BitVec 32 := 1#32
  let v1371 : BitVec 32 := Scalar.muli v7 c1_i32_1044
  let v1372 : BitVec 32 := Scalar.addi v1370 v1371
  v1372.toNat
def k0_dev58 (d0 : Dev nD) : Nat :=
  let c0_i32_1071 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1070 : BitVec 32 := 2#32
  let v1403 : BitVec 32 := Scalar.muli v2 c2_i32_1070
  let v1404 : BitVec 32 := Scalar.addi c0_i32_1071 v1403
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1072 : BitVec 32 := 1#32
  let v1405 : BitVec 32 := Scalar.muli v7 c1_i32_1072
  let v1406 : BitVec 32 := Scalar.addi v1404 v1405
  v1406.toNat
def k0_dev59 (d0 : Dev nD) : Nat :=
  let c0_i32_1099 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1098 : BitVec 32 := 2#32
  let v1437 : BitVec 32 := Scalar.muli v2 c2_i32_1098
  let v1438 : BitVec 32 := Scalar.addi c0_i32_1099 v1437
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1100 : BitVec 32 := 1#32
  let v1439 : BitVec 32 := Scalar.muli v7 c1_i32_1100
  let v1440 : BitVec 32 := Scalar.addi v1438 v1439
  v1440.toNat
def k0_dev60 (d0 : Dev nD) : Nat :=
  let c0_i32_1127 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1126 : BitVec 32 := 2#32
  let v1471 : BitVec 32 := Scalar.muli v2 c2_i32_1126
  let v1472 : BitVec 32 := Scalar.addi c0_i32_1127 v1471
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1128 : BitVec 32 := 1#32
  let v1473 : BitVec 32 := Scalar.muli v7 c1_i32_1128
  let v1474 : BitVec 32 := Scalar.addi v1472 v1473
  v1474.toNat
def k0_dev61 (d0 : Dev nD) : Nat :=
  let c0_i32_1155 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1154 : BitVec 32 := 2#32
  let v1505 : BitVec 32 := Scalar.muli v2 c2_i32_1154
  let v1506 : BitVec 32 := Scalar.addi c0_i32_1155 v1505
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1156 : BitVec 32 := 1#32
  let v1507 : BitVec 32 := Scalar.muli v7 c1_i32_1156
  let v1508 : BitVec 32 := Scalar.addi v1506 v1507
  v1508.toNat
def k0_dev62 (d0 : Dev nD) : Nat :=
  let c0_i32_1183 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1182 : BitVec 32 := 2#32
  let v1539 : BitVec 32 := Scalar.muli v2 c2_i32_1182
  let v1540 : BitVec 32 := Scalar.addi c0_i32_1183 v1539
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1184 : BitVec 32 := 1#32
  let v1541 : BitVec 32 := Scalar.muli v7 c1_i32_1184
  let v1542 : BitVec 32 := Scalar.addi v1540 v1541
  v1542.toNat
def k0_dev63 (d0 : Dev nD) : Nat :=
  let c0_i32_1211 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1210 : BitVec 32 := 2#32
  let v1573 : BitVec 32 := Scalar.muli v2 c2_i32_1210
  let v1574 : BitVec 32 := Scalar.addi c0_i32_1211 v1573
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1212 : BitVec 32 := 1#32
  let v1575 : BitVec 32 := Scalar.muli v7 c1_i32_1212
  let v1576 : BitVec 32 := Scalar.addi v1574 v1575
  v1576.toNat
def k0_dev64 (d0 : Dev nD) : Nat :=
  let c0_i32_1239 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1238 : BitVec 32 := 2#32
  let v1607 : BitVec 32 := Scalar.muli v2 c2_i32_1238
  let v1608 : BitVec 32 := Scalar.addi c0_i32_1239 v1607
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1240 : BitVec 32 := 1#32
  let v1609 : BitVec 32 := Scalar.muli v7 c1_i32_1240
  let v1610 : BitVec 32 := Scalar.addi v1608 v1609
  v1610.toNat
def k0_dev65 (d0 : Dev nD) : Nat :=
  let c0_i32_1267 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1266 : BitVec 32 := 2#32
  let v1641 : BitVec 32 := Scalar.muli v2 c2_i32_1266
  let v1642 : BitVec 32 := Scalar.addi c0_i32_1267 v1641
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1268 : BitVec 32 := 1#32
  let v1643 : BitVec 32 := Scalar.muli v7 c1_i32_1268
  let v1644 : BitVec 32 := Scalar.addi v1642 v1643
  v1644.toNat
def k0_dev66 (d0 : Dev nD) : Nat :=
  let c0_i32_1295 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1294 : BitVec 32 := 2#32
  let v1675 : BitVec 32 := Scalar.muli v2 c2_i32_1294
  let v1676 : BitVec 32 := Scalar.addi c0_i32_1295 v1675
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1296 : BitVec 32 := 1#32
  let v1677 : BitVec 32 := Scalar.muli v7 c1_i32_1296
  let v1678 : BitVec 32 := Scalar.addi v1676 v1677
  v1678.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S_, .f32⟩
  | .hbm, ⟨2, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Loop.lean ====
/-
# The kernel's body as three loops

The printed body is one long straight line: 32 rounds of starting copies, 32 rounds of receiving, adding and sending on, 32
rounds of waiting. Here each round is written once, for a chunk number `k`, and the body is shown to be the three
sequences of rounds after the barrier.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic Idealize.SL.Sem

variable {F : FTy → Type} [FloatOps F]

/-! ## The pieces of the buffers and of the semaphore arrays, by chunk number -/

/-- Every chunk has a semaphore in each array. -/
theorem inb_sem : ∀ k : Fin 32, ∀ a, (![k.val] : Fin 1 → Nat) a + S1.size a ≤ S32.size a := by decide
/-- Every chunk lies inside the scratch buffers. -/
theorem inb_rows : ∀ k : Fin 32, ∀ a, (![64 * k.val, 0] : Fin 2 → Nat) a + S64x1024.size a ≤ S2048x1024.size a := by decide

/-- Semaphore `k` of an array of 32. -/
def semAt (a : DmaSems sig S32) (k : Fin 32) : DmaSems sig S_ :=
  (a.slice (Rect.unit (s := S32) ![k.val] S1.size (inb_sem k))).squeeze S_ squeezes_S1_S_

/-- Chunk `k` of a buffer of 2048 rows: its rows from `64 k`. -/
def rowRect (k : Fin 32) : Rect S2048x1024 := Rect.unit (s := S2048x1024) ![64 * k.val, 0] S64x1024.size (inb_rows k)
def rowsAt (b : Memref sig .tc .vmem S2048x1024 .f32) (k : Fin 32) : Memref sig .tc .vmem S64x1024 .f32 :=
  b.slice (rowRect k) (fun _ => rfl)

/-- Chunk `k` of the columns of `x` that device `d` sends to the device across the first axis, -/
def farAt (x : Memref sig .tc .hbm S1x4096x2048 .f32) (d : Dev nD) (k : Fin 32) : Memref sig .tc .hbm S64x1024 .f32 :=
  (x.slice (Rect.unit (s := S1x4096x2048) (k0_off1 d (BitVec.ofNat 32 (64 * k.val))) S1x64x1024.size (k0_off1_inb d k))
    (fun _ => rfl)).squeeze S64x1024 squeezes_S1x64x1024_S64x1024
/-- and of those it keeps. -/
def nearAt (x : Memref sig .tc .hbm S1x4096x2048 .f32) (d : Dev nD) (k : Fin 32) : Memref sig .tc .hbm S64x1024 .f32 :=
  (x.slice (Rect.unit (s := S1x4096x2048) (k0_off2 d (BitVec.ofNat 32 (64 * k.val))) S1x64x1024.size (k0_off2_inb d k))
    (fun _ => rfl)).squeeze S64x1024 squeezes_S1x64x1024_S64x1024

/-- Chunk `k` of the result rows device `d` computes: the rectangle it stores to, -/
def outRect (d : Dev nD) (k : Fin 32) : Rect S4096x1024 :=
  Rect.unit (s := S4096x1024) (k0_off3 d (BitVec.ofNat 32 (64 * k.val))) S64x1024.size (k0_off3_inb d k)
/-- and the piece it sends on. -/
def outAt (o : Memref sig .tc .vmem S4096x1024 .f32) (d : Dev nD) (k : Fin 32) : Memref sig .tc .vmem S64x1024 .f32 :=
  o.slice (Rect.unit (s := S4096x1024) (k0_off4 d (BitVec.ofNat 32 (64 * k.val))) S64x1024.size (k0_off4_inb d k)) (fun _ => rfl)

/-! ## The rounds -/

section Rounds

variable (x : Memref sig .tc .hbm S1x4096x2048 .f32) (o : Memref sig .tc .vmem S4096x1024 .f32)
  (xr lb : Memref sig .tc .vmem S2048x1024 .f32) (ssx srx sl ssy sry : DmaSems sig S32)

/-- Round `k` of the first loop: start the copy across the first axis, start the local copy. -/
def startRound (d : Dev nD) (k : Fin 32) : Prog (TpuEff nD τ sig (Elt F) Λ₀ .tc) PUnit := do
  Prog.lift (.enqueueDma (farAt x d k) (.remote (Dev.tc (⟨k0_dev3 d, k0_dev3_lt d⟩ : Dev nD)) (rowsAt xr k) (.dma (semAt ssx k).sem)) (.dma (semAt srx k).sem)
    ((View.wordExact_bits rfl).reshape _ _) (View.wordExact_bits rfl) ⟨⟨rfl, Or.inl rfl⟩, trivial⟩)
  Prog.lift (.enqueueDma (nearAt x d k) (.here (rowsAt lb k)) (.dma (semAt sl k).sem) ((View.wordExact_bits rfl).reshape _ _) (View.wordExact_bits rfl) ⟨Or.inl rfl, trivial⟩)

/-- Round `k` of the second loop: wait for both copies, add, store, and start the copy across the second axis. -/
def addRound (d : Dev nD) (k : Fin 32) : Prog (TpuEff nD τ sig (Elt F) Λ₀ .tc) PUnit := do
  Prog.lift (.waitDma2 (semAt sl k).sem (nearAt x d k) (rowsAt lb k) ((View.wordExact_bits rfl).reshape _ _) (View.wordExact_bits rfl))
  Prog.lift (.waitDma2 (semAt srx k).sem (farAt x d k) (rowsAt xr k) ((View.wordExact_bits rfl).reshape _ _) (View.wordExact_bits rfl))
  let u : Vec F S64x1024 .f32 ← Prog.lift (.load xr (rowRect k).toLoadRect (View.loadsAt_vmem h_S64x1024))
  let w : Vec F S64x1024 .f32 ← Prog.lift (.load lb (rowRect k).toLoadRect (View.loadsAt_vmem h_S64x1024))
  let _ : Vec F S64x1024 .f32 ← Prog.lift (.load o (outRect d k).toLoadRect (View.loadsAt_vmem h_S64x1024))
  Prog.lift (.store o (outRect d k) (k0_pay1 u w) Finset.univ (View.stores_vmem_bits_univ h_S64x1024 rfl) (.inl rfl))
  Prog.lift (.enqueueDma (outAt o d k) (.remote (Dev.tc (⟨k0_dev35 d, k0_dev35_lt d⟩ : Dev nD)) (outAt o d k) (.dma (semAt ssy k).sem)) (.dma (semAt sry k).sem)
    (View.wordExact_bits rfl) (View.wordExact_bits rfl) ⟨⟨rfl, Or.inl rfl⟩, trivial⟩)

/-- Round `k` of the third loop: wait for both sends and for the chunk from across the second axis. -/
def waitRound (d : Dev nD) (k : Fin 32) : Prog (TpuEff nD τ sig (Elt F) Λ₀ .tc) PUnit := do
  Prog.lift (.waitDma2 (semAt ssx k).sem (rowsAt xr k) (farAt x d k) (View.wordExact_bits rfl) ((View.wordExact_bits rfl).reshape _ _))
  Prog.lift (.waitDma2 (semAt ssy k).sem (outAt o d k) (outAt o d k) (View.wordExact_bits rfl) (View.wordExact_bits rfl))
  Prog.lift (.waitDma2 (semAt sry k).sem (outAt o d k) (outAt o d k) (View.wordExact_bits rfl) (View.wordExact_bits rfl))

/-- The rounds `f k` in sequence, for each `k` of a list. -/
def each (f : Fin 32 → Prog (TpuEff nD τ sig (Elt F) Λ₀ .tc) PUnit) : List (Fin 32) → Prog (TpuEff nD τ sig (Elt F) Λ₀ .tc) PUnit
  | [] => pure ⟨⟩
  | k :: ks => f k >>= fun _ => each f ks

/-- The chunk numbers in order. -/
def chunks : List (Fin 32) := [0, 1, 2, 3, 4, 5, 6, 7, 8, 9, 10, 11, 12, 13, 14, 15, 16, 17, 18, 19, 20, 21, 22, 23, 24, 25, 26, 27, 28, 29, 30, 31]

/-- The barrier handshake, then the three loops. -/
def loops : Prog (TpuEff nD τ sig (Elt F) Λ₀ .tc) PUnit := do
  let d : Dev nD ← Prog.lift .deviceId
  let b : Sems sig S_ := SemArray.scalar (sig.barrier 0 rfl)
  semSignalWord (⟨k0_dev1 d, k0_dev1_lt d⟩ : Dev nD) b.sem 1#32
  semSignalWord (⟨k0_dev2 d, k0_dev2_lt d⟩ : Dev nD) b.sem 1#32
  semWaitWord b.sem 2#32
  each (startRound x xr lb ssx srx sl d) chunks
  each (addRound x o xr lb srx sl ssy sry d) chunks
  each (waitRound x o xr ssx ssy sry d) chunks

set_option maxRecDepth 65536 in
/-- The printed body is the handshake and the three loops. -/
theorem body_eq_loops (hx : x.IsWhole) (ho : o.IsWhole) (hxr : xr.IsWhole) (hlb : lb.IsWhole) :
    cc0_body (F := F) x hx o ho xr hxr lb hlb ssx srx sl ssy sry = loops x o xr lb ssx srx sl ssy sry := by
  chain_rfl

end Rounds

end Cert.KernelIdeal.Exchange

end
-- ==== Proof.KernelIdeal.Chunks.lean ====
/-
# Peers, chunks and contents

The two neighbours of a device, the chunks of its buffers as sets of elements, and what each buffer holds once its chunk
has arrived.
-/
module

public import proofs.«01_k».proof.Proof.KernelIdeal.Loop

@[expose] public section

noncomputable section

namespace Cert.KernelIdeal.Exchange

open Cert.KernelIdeal Cert.KernelIdeal.Gen
open Idealize.ShloMosaic Idealize.ShloMosaic.TcCoe Idealize.SL.Sem

variable {F : FTy → Type} [FloatOps F]

/-! ## The neighbours -/

set_option backward.proofsInPublic true in
/-- The device across the first mesh axis, -/
def xp (c : Dev nD) : Dev nD := ⟨((c.val % 2) + 2) - 2 * (c.val / 2), by have := c.isLt; simp only [nD] at this ⊢; omega⟩
set_option backward.proofsInPublic true in
/-- and the one across the second. -/
def yp (c : Dev nD) : Dev nD := ⟨(2 * (c.val / 2) + 1) - (c.val % 2), by have := c.isLt; simp only [nD] at this ⊢; omega⟩

/-- The neighbour's neighbour across the first axis is the device; -/
theorem xp_xp (c : Dev nD) : xp (xp c) = c := by revert c; decide
/-- and so across the second. -/
theorem yp_yp (c : Dev nD) : yp (yp c) = c := by revert c; decide
/-- Crossing the first axis keeps the second coordinate -/
theorem xp_mod (c : Dev nD) : (xp c).val % 2 = c.val % 2 := by revert c; decide
/-- and changes the first; -/
theorem xp_div (c : Dev nD) : (xp c).val / 2 = 1 - c.val / 2 := by revert c; decide
/-- crossing the second changes the second -/
theorem yp_mod (c : Dev nD) : (yp c).val % 2 = 1 - c.val % 2 := by revert c; decide
/-- and keeps the first. -/
theorem yp_div (c : Dev nD) : (yp c).val / 2 = c.val / 2 := by revert c; decide
/-- The two crossings commute. -/
theorem yp_xp (c : Dev nD) : yp (xp c) = xp (yp c) := by revert c; decide
/-- There are four devices. -/
theorem dev_lt (c : Dev nD) : c.val < 4 := c.isLt

/-- Crossing an axis is its own inverse. -/
def xE : Dev nD ≃ Dev nD := ⟨xp, xp, xp_xp, xp_xp⟩
def yE : Dev nD ≃ Dev nD := ⟨yp, yp, yp_yp, yp_yp⟩

/-- The first signal goes across the first axis, -/
theorem dev1_eq (c : Dev nD) : (⟨k0_dev1 c, k0_dev1_lt c⟩ : Dev nD) = xp c := Fin.ext (k0_dev1_eq c)
/-- the second across the second; -/
theorem dev2_eq (c : Dev nD) : (⟨k0_dev2 c, k0_dev2_lt c⟩ : Dev nD) = yp c := Fin.ext (k0_dev2_eq c)
/-- the first copies go across the first axis, -/
theorem dev3_eq (c : Dev nD) : (⟨k0_dev3 c, k0_dev3_lt c⟩ : Dev nD) = xp c := Fin.ext (k0_dev3_eq c)
/-- the sums' copies across the second. -/
theorem dev35_eq (c : Dev nD) : (⟨k0_dev35 c, k0_dev35_lt c⟩ : Dev nD) = yp c := Fin.ext (k0_dev35_eq c)

/-! ## The buffers -/

abbrev xM : Memref sig .tc .hbm S1x4096x2048 .f32 := Memref.whole main_arg0
abbrev oM : Memref sig .tc .vmem S4096x1024 .f32 := Memref.whole cc0_stg0_0
abbrev rM : Memref sig .tc .vmem S2048x1024 .f32 := Memref.whole cc0_scratch0
abbrev lM : Memref sig .tc .vmem S2048x1024 .f32 := Memref.whole cc0_scratch1

/-! ## Where a chunk's elements lie -/

/-- The element of a device's block of `x` in row `r`, column `q`. -/
def xIx (r q : ℕ) (hr : r < 4096) (hq : q < 2048) : S1x4096x2048.Idx :=
  Fin.cons (⟨0, Nat.one_pos⟩ : Fin 1) (Fin.cons (⟨r, hr⟩ : Fin 4096) (Fin.cons (⟨q, hq⟩ : Fin 2048) (fun a => a.elim0)))
/-- Equal coordinates give equal indices. -/
theorem xIx_congr {r r' q q' : ℕ} {hr hr' hq hq'} (h : r = r') (h' : q = q') : xIx r q hr hq = xIx r' q' hr' hq' := by
  subst h h'; rfl

/-- A row of a scratch buffer. -/
theorem row_lt (i : S2048x1024.Idx) : (i 0).val < 2048 := (i 0).isLt
/-- A column of a scratch buffer. -/
theorem col_lt (i : S2048x1024.Idx) : (i 1).val < 1024 := (i 1).isLt
/-- A row of the result. -/
theorem orow_lt (i : S4096x1024.Idx) : (i 0).val < 4096 := (i 0).isLt
/-- A column of the result. -/
theorem ocol_lt (i : S4096x1024.Idx) : (i 1).val < 1024 := (i 1).isLt
/-- A row of a chunk. -/
theorem crow_lt (i : S64x1024.Idx) : (i 0).val < 64 := (i 0).isLt
/-- A column of a chunk. -/
theorem ccol_lt (i : S64x1024.Idx) : (i 1).val < 1024 := (i 1).isLt

/-- Where the chunk sent lies in the argument. -/
theorem far_emb (c : Dev nD) (k : Fin 32) (y : S64x1024.Idx) :
    (farAt xM c k).view.emb y = xIx (2048 * (c.val % 2) + 64 * k.val + (y 0).val) (1024 - 1024 * (c.val / 2) + (y 1).val)
      (by have := crow_lt y; have := k.isLt; have := dev_lt c; omega) (by have := ccol_lt y; omega) := by
  have h := Shape.reshapeEquiv_cons_one (n := 2) (d := ![64, 1024]) squeezes_S1x64x1024_S64x1024.numel_eq y
  show (Rect.unit (s := S1x4096x2048) (k0_off1 c (BitVec.ofNat 32 (64 * k.val))) S1x64x1024.size (k0_off1_inb c k)).emb
    (Shape.reshapeEquiv squeezes_S1x64x1024_S64x1024.numel_eq y) = _
  rw [h]
  funext a
  refine Fin.ext ?_
  rw [Rect.emb_apply]
  refine (congrArg₂ (· + ·) (congrFun (k0_off1_eq c k) a) (Nat.one_mul _)).trans ?_
  fin_cases a <;> rfl

/-- Where the chunk kept lies in the argument. -/
theorem near_emb (c : Dev nD) (k : Fin 32) (y : S64x1024.Idx) :
    (nearAt xM c k).view.emb y = xIx (2048 * (c.val % 2) + 64 * k.val + (y 0).val) (1024 * (c.val / 2) + (y 1).val)
      (by have := crow_lt y; have := k.isLt; have := dev_lt c; omega) (by have := ccol_lt y; have := dev_lt c; omega) := by
  have h := Shape.reshapeEquiv_cons_one (n := 2) (d := ![64, 1024]) squeezes_S1x64x1024_S64x1024.numel_eq y
  show (Rect.unit (s := S1x4096x2048) (k0_off2 c (BitVec.ofNat 32 (64 * k.val))) S1x64x1024.size (k0_off2_inb c k)).emb
    (Shape.reshapeEquiv squeezes_S1x64x1024_S64x1024.numel_eq y) = _
  rw [h]
  funext a
  refine Fin.ext ?_
  rw [Rect.emb_apply]
  refine (congrArg₂ (· + ·) (congrFun (k0_off2_eq c k) a) (Nat.one_mul _)).trans ?_
  fin_cases a <;> rfl

/-- A chunk's row in a scratch buffer; -/
theorem rows_emb0 (k : Fin 32) (y : S64x1024.Idx) : (((rowRect k).emb y) 0).val = 64 * k.val + (y 0).val := by
  show 64 * k.val + 1 * (y 0).val = _
  rw [Nat.one_mul]
/-- its column. -/
theorem rows_emb1 (k : Fin 32) (y : S64x1024.Idx) : (((rowRect k).emb y) 1).val = (y 1).val := by
  show 0 + 1 * (y 1).val = _
  rw [Nat.one_mul, Nat.zero_add]
/-- A chunk's row in the result; -/
theorem out_emb0 (c : Dev nD) (k : Fin 32) (y : S64x1024.Idx) :
    (((outRect c k).emb y) 0).val = 2048 * (c.val % 2) + 64 * k.val + (y 0).val := by
  show k0_off3 c (BitVec.ofNat 32 (64 * k.val)) 0 + 1 * (y 0).val = _
  rw [Nat.one_mul, k0_off3_eq]; rfl
/-- its column. -/
theorem out_emb1 (c : Dev nD) (k : Fin 32) (y : S64x1024.Idx) : (((outRect c k).emb y) 1).val = (y 1).val := by
  show k0_off3 c (BitVec.ofNat 32 (64 * k.val)) 1 + 1 * (y 1).val = _
  rw [Nat.one_mul, k0_off3_eq]; exact Nat.zero_add _

/-- The rectangle stored to and the piece sent on are the same. -/
theorem outRect_eq (c : Dev nD) (k : Fin 32) :
    Rect.unit (s := S4096x1024) (k0_off4 c (BitVec.ofNat 32 (64 * k.val))) S64x1024.size (k0_off4_inb c k) = outRect c k := by
  unfold outRect
  congr 1

/-! ## The chunks as sets -/

/-- A chunk of a scratch buffer is its rectangle. -/
theorem rows_set (b : Memref sig .tc .vmem S2048x1024 .f32) (k : Fin 32) : (rowsAt b k).view.set = (b.access (rowRect k)).set := rfl
/-- So in the receive buffer, -/
theorem recv_set (k : Fin 32) : (rowsAt rM k).view.set = (rowRect k).set := View.set_slice_whole _ _
/-- and in the local buffer. -/
theorem local_set (k : Fin 32) : (rowsAt lM k).view.set = (rowRect k).set := View.set_slice_whole _ _
/-- A chunk of the result is its rectangle. -/
theorem out_set (c : Dev nD) (k : Fin 32) : (outAt oM c k).view.set = (outRect c k).set := by
  rw [← outRect_eq]; exact View.set_slice_whole _ _
/-- The elements of the chunk sent. -/
theorem far_set (c : Dev nD) (k : Fin 32) : (farAt xM c k).view.set =
    (Rect.unit (s := S1x4096x2048) (k0_off1 c (BitVec.ofNat 32 (64 * k.val))) S1x64x1024.size (k0_off1_inb c k)).set :=
  (View.set_reshape _ _).trans (View.set_slice_whole _ _)
/-- The elements of the chunk kept. -/
theorem near_set (c : Dev nD) (k : Fin 32) : (nearAt xM c k).view.set =
    (Rect.unit (s := S1x4096x2048) (k0_off2 c (BitVec.ofNat 32 (64 * k.val))) S1x64x1024.size (k0_off2_inb c k)).set :=
  (View.set_reshape _ _).trans (View.set_slice_whole _ _)

/-- An element is in a scratch chunk when its row is. -/
theorem mem_rows (k : Fin 32) (i : S2048x1024.Idx) : i ∈ (rowRect k).set ↔ 64 * k.val ≤ (i 0).val ∧ (i 0).val < 64 * k.val + 64 := by
  unfold rowRect
  rw [Rect.mem_set_unit]
  constructor
  · intro h; exact h 0
  · intro h a
    fin_cases a
    · exact h
    · exact ⟨Nat.zero_le _, by have := col_lt i; simpa using this⟩
/-- An element is in a result's chunk when its row is. -/
theorem mem_out (c : Dev nD) (k : Fin 32) (i : S4096x1024.Idx) : i ∈ (outRect c k).set ↔
    2048 * (c.val % 2) + 64 * k.val ≤ (i 0).val ∧ (i 0).val < 2048 * (c.val % 2) + 64 * k.val + 64 := by
  unfold outRect
  rw [Rect.mem_set_unit, k0_off3_eq]
  constructor
  · intro h; exact h 0
  · intro h a
    fin_cases a
    · exact h
    · exact ⟨Nat.zero_le _, by have := ocol_lt i; simpa using this⟩

/-- Different chunks of a scratch buffer share no element. -/
theorem rows_disjoint (k k' : Fin 32) (h : k ≠ k') : Disjoint (rowRect k).set (rowRect k').set := by
  rw [Finset.disjoint_left]
  intro i hi hi'
  rw [mem_rows] at hi hi'
  exact h (Fin.ext (by omega))
/-- Different chunks sent share no element. -/
theorem far_disjoint (c : Dev nD) (k k' : Fin 32) (h : k ≠ k') : Disjoint (farAt xM c k).view.set (farAt xM c k').view.set := by
  rw [far_set, far_set]
  refine Rect.unit_disjoint (1 : Fin 3) ?_
  have : k.val ≠ k'.val := fun e => h (Fin.ext e)
  rw [k0_off1_eq, k0_off1_eq]
  simp
  omega
/-- Different chunks kept share no element. -/
theorem near_disjoint (c : Dev nD) (k k' : Fin 32) (h : k ≠ k') : Disjoint (nearAt xM c k).view.set (nearAt xM c k').view.set := by
  rw [near_set, near_set]
  refine Rect.unit_disjoint (1 : Fin 3) ?_
  have : k.val ≠ k'.val := fun e => h (Fin.ext e)
  rw [k0_off2_eq, k0_off2_eq]
  simp
  omega

/-- The chunks are the whole scratch buffer. -/
theorem rows_cover : (Finset.univ : Finset (Fin 32)).biUnion (fun k => (rowRect k).set) = Finset.univ := by
  refine Finset.eq_univ_of_forall fun i => Finset.mem_biUnion.mpr ?_
  have := row_lt i
  exact ⟨⟨(i 0).val / 64, by omega⟩, Finset.mem_univ _, (mem_rows _ _).mpr (by constructor <;> simp <;> omega)⟩

/-- The rows a device computes and those its neighbour across the second axis computes, by chunk. -/
abbrev side (c : Dev nD) (b : Bool) : Dev nD := if b then yp c else c
/-- Different chunks of the result share no element, on either half. -/
theorem side_disjoint (c : Dev nD) (p p' : Bool × Fin 32) (h : p ≠ p') :
    Disjoint (outRect (side c p.1) p.2).set (outRect (side c p'.1) p'.2).set := by
  rw [Finset.disjoint_left]
  intro i hi hi'
  rw [mem_out] at hi hi'
  have hk := p.2.isLt
  have hk' := p'.2.isLt
  have e := yp_mod c
  refine h (Prod.ext ?_ (Fin.ext ?_))
  · rcases h1 : p.1 with _ | _ <;> rcases h2 : p'.1 with _ | _ <;> simp [side, h1, h2] at hi hi' ⊢ <;> omega
  · rcases h1 : p.1 with _ | _ <;> rcases h2 : p'.1 with _ | _ <;> simp [side, h1, h2] at hi hi' ⊢ <;> omega
/-- The chunks of both halves are the whole result. -/
theorem side_cover (c : Dev nD) :
    (Finset.univ : Finset (Bool × Fin 32)).biUnion (fun p => (outRect (side c p.1) p.2).set) = Finset.univ := by
  refine Finset.eq_univ_of_forall fun i => Finset.mem_biUnion.mpr ?_
  have := orow_lt i
  have e := yp_mod c
  by_cases h : (i 0).val / 2048 = c.val % 2
  · exact ⟨(false, ⟨((i 0).val % 2048) / 64, by omega⟩), Finset.mem_univ _, (mem_out _ _ _).mpr (by constructor <;> simp [side] <;> omega)⟩
  · exact ⟨(true, ⟨((i 0).val % 2048) / 64, by omega⟩), Finset.mem_univ _, (mem_out _ _ _).mpr (by constructor <;> simp [side] <;> omega)⟩

/-! ## Contents -/

variable (m : (ℓ : Loc nD τ sig) → Buf (Elt F) ℓ)

/-- Device `c`'s block of `x`. -/
def X (c : Dev nD) : S1x4096x2048.Idx → Elt F .f32 := m ((c : Thread nD τ).loc main_arg0)

/-- What device `c` reads of its own block (`d = c`) and of its neighbour's (`d = xp c`): rows from `2048 (c % 2)`,
    columns from `1024 (c / 2)`. -/
def part (d c : Dev nD) (i : S2048x1024.Idx) : Elt F .f32 :=
  X m d (xIx (2048 * (c.val % 2) + (i 0).val) (1024 * (c.val / 2) + (i 1).val)
    (by have := row_lt i; have := dev_lt c; omega) (by have := col_lt i; have := dev_lt c; omega))

/-- The device that computes row `i 0` of device `c`'s result: itself or its neighbour across the second axis. -/
def maker (c : Dev nD) (i : S4096x1024.Idx) : Dev nD := if (i 0).val / 2048 = c.val % 2 then c else yp c

/-- Device `c`'s result: each element the sum of those of the two blocks along the first axis, the neighbour's first. -/
def OUT (c : Dev nD) (i : S4096x1024.Idx) : Elt F .f32 :=
  let j := xIx (i 0).val (1024 * (c.val / 2) + (i 1).val) (by have := orow_lt i; omega) (by have := ocol_lt i; have := dev_lt c; omega)
  FloatOps.addf (X m (xp (maker c i)) j) (X m (maker c i) j)

/-- The chunk sent across the first axis is what the neighbour reads of this block. -/
theorem far_read (c : Dev nD) (k : Fin 32) (y : S64x1024.Idx) :
    X m c ((farAt xM c k).view.emb y) = part m c (xp c) ((rowRect k).emb y) := by
  unfold part
  rw [far_emb]
  refine congrArg _ (xIx_congr ?_ ?_)
  · rw [rows_emb0, xp_mod]; omega
  · rw [rows_emb1, xp_div]; omega
/-- The chunk kept is what the device reads of its own block. -/
theorem near_read (c : Dev nD) (k : Fin 32) (y : S64x1024.Idx) :
    X m c ((nearAt xM c k).view.emb y) = part m c c ((rowRect k).emb y) := by
  unfold part
  rw [near_emb]
  refine congrArg _ (xIx_congr ?_ ?_)
  · rw [rows_emb0]; omega
  · rw [rows_emb1]

/-- The sum of a received and a kept chunk is the result's chunk. -/
theorem add_out (c : Dev nD) (k : Fin 32) (y : S64x1024.Idx) :
    FloatOps.addf (part m (xp c) c ((rowRect k).emb y)) (part m c c ((rowRect k).emb y)) = OUT m c ((outRect c k).emb y) := by
  have hm : maker c ((outRect c k).emb y) = c := by
    unfold maker
    rw [out_emb0, if_pos]
    have := crow_lt y; have := k.isLt; omega
  unfold OUT part
  simp only [hm]
  congr 2
  all_goals
    refine xIx_congr ?_ ?_
    · rw [rows_emb0, out_emb0]; omega
    · rw [rows_emb1, out_emb1]

/-- The two devices along the second axis agree on the result's rows. -/
theorem OUT_side (c : Dev nD) (i : S4096x1024.Idx) : OUT m (yp c) i = OUT m c i := by
  have hi := orow_lt i
  have hm : maker (yp c) i = maker c i := by
    unfold maker
    rw [yp_mod, yp_yp]
    by_cases h : (i 0).val / 2048 = c.val % 2
    · rw [if_pos h, if_neg (by omega)]
    · rw [if_neg h, if_pos (by omega)]
  unfold OUT
  simp only [hm]
  congr 2
  all_goals exact xIx_congr rfl (by rw [yp_div])

end Cert.KernelIdeal.Exchange

end
-- ==== Proof.KernelIdeal.Cells.lean ====
/-
# The protocol

Each device has a barrier cell and five families of 32 transfer cells: the sends across the first axis, the receives from
there, the local copies, the sends across the second axis, the receives from there. Each cell has one round. This file
states what each cell's round expects, who pays it and what the payment hands over; what every device owes at launch; and
the order of the cells by which nobody waits for ever.
-/
module

public import proofs.«01_k».proof.Proof.KernelIdeal.Chunks

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- Duties are named by `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores and cells -/

/-- A transfer cell of a device: its family and its chunk. -/
abbrev J : Type := Fin 5 × Fin 32

/-- The families: sends and receives across the first axis, local copies, sends and receives across the second. -/
def arr : Fin 5 → DmaSems sig S32
  | 0 => cc0_scratch2 | 1 => cc0_scratch3 | 2 => cc0_scratch4 | 3 => cc0_scratch5 | 4 => cc0_scratch6

abbrev barS : Sem sig := (SemArray.scalar (sig.barrier 0 rfl) : Sems sig S_).sem
abbrev osem (j : J) : SemLoc sig := .dma (semAt (arr j.1) j.2).sem
abbrev csem : Option J → SemLoc sig
  | none => .reg barS
  | some j => osem j

abbrev barCell (c : Dev nD) : GSem nD τ sig := ((c : Thread nD τ), .reg barS)
abbrev cell (c : Dev nD) (a : Fin 5) (k : Fin 32) : GSem nD τ sig := ((c : Thread nD τ), .dma (semAt (arr a) k).sem)
abbrev kcell (p : Dev nD × Option J) : GSem nD τ sig := ((p.1 : Thread nD τ), csem p.2)

/-- The number of each transfer semaphore. -/
theorem semAt_val : ∀ j : J, (semAt (arr j.1) j.2).sem.val = 1 + 32 * j.1.val + j.2.val := by decide +kernel

set_option backward.proofsInPublic true in
/-- Which cell of the protocol a semaphore is, if any. -/
def decode : SemLoc sig → Option (Option J)
  | .reg _ => some none
  | .dma v => if v.val = 0 then none else
      some (some (⟨(v.val - 1) / 32, by have h : v.val < 161 := v.isLt; omega⟩, ⟨(v.val - 1) % 32, by omega⟩))

/-- A transfer semaphore's number names its family and chunk. -/
theorem decode_osem (j : J) : decode (osem j) = some (some j) := by
  have h := semAt_val j
  have h1 := j.1.isLt
  have h2 := j.2.isLt
  refine (if_neg (by omega)).trans ?_
  refine congrArg (fun j => some (some j)) ?_
  exact Prod.ext (Fin.ext (by simp only; omega)) (Fin.ext (by simp only; omega))
/-- Every cell's semaphore is decoded to its own index. -/
theorem decode_csem (j : Option J) : decode (csem j) = some j := by
  rcases j with _ | j
  · rfl
  · exact decode_osem j
/-- Different cells of a device have different semaphores. -/
theorem csem_injective : Function.Injective csem := fun j j' h => by
  have := congrArg decode h
  rw [decode_csem, decode_csem] at this
  exact Option.some.inj this
/-- Different cells are different semaphores of the mesh. -/
theorem kcell_injective : Function.Injective kcell := by
  rintro ⟨c, j⟩ ⟨c', j'⟩ h
  have h1 : c = c' := congrArg (fun g : GSem nD τ sig => g.1.1) h
  have h2 : j = j' := csem_injective (congrArg Prod.snd h)
  rw [h1, h2]

/-! ## The pieces of memory -/

variable (m : (ℓ : Loc nD τ sig) → Buf (Elt F) ℓ)

abbrev halfL : PosShare TreeShare := fullShare.left
abbrev halfR : PosShare TreeShare := fullShare.right

/-- Half of the share of the chunk of `x` sent across the first axis; -/
def farPts (c : Dev nD) (k : Fin 32) : sProp 𝕄 :=
  (farAt xM c k).view.loc (c : Thread nD τ) ↦[(farAt xM c k).view.set]{halfL} X m c
/-- the other half of the chunk of `x` kept; -/
def nearPts (c : Dev nD) (k : Fin 32) : sProp 𝕄 :=
  (nearAt xM c k).view.loc (c : Thread nD τ) ↦[(nearAt xM c k).view.set]{halfR} X m c
/-- a chunk of the receive buffer; -/
def recvPts (c : Dev nD) (k : Fin 32) (f : S2048x1024.Idx → Elt F .f32) : sProp 𝕄 :=
  (rowsAt rM k).view.loc (c : Thread nD τ) ↦[(rowsAt rM k).view.set]{fullShare} f
/-- a chunk of the local buffer; -/
def localPts (c : Dev nD) (k : Fin 32) (f : S2048x1024.Idx → Elt F .f32) : sProp 𝕄 :=
  (rowsAt lM k).view.loc (c : Thread nD τ) ↦[(rowsAt lM k).view.set]{fullShare} f
/-- the chunk of device `c`'s result that device `d` computes. -/
def outPts (c d : Dev nD) (k : Fin 32) (f : S4096x1024.Idx → Elt F .f32) : sProp 𝕄 :=
  (outAt oM d k).view.loc (c : Thread nD τ) ↦[(outAt oM d k).view.set]{fullShare} f

omit [FloatOps F] in
theorem pts_storable {ℓ : Loc nD τ sig} (I : Finset (Idx ℓ)) (q : PosShare TreeShare) (f : Buf (Elt F) ℓ) :
    BI.Storable (upEmb : UEmb _ 𝕄) (ℓ ↦[I]{q} f : sProp 𝕄) := inferInstance
omit [FloatOps F] in
instance farPts_storable (c : Dev nD) (k) : BI.Storable (upEmb : UEmb _ 𝕄) (farPts m c k) := pts_storable _ _ _
omit [FloatOps F] in
instance nearPts_storable (c : Dev nD) (k) : BI.Storable (upEmb : UEmb _ 𝕄) (nearPts m c k) := pts_storable _ _ _
omit [FloatOps F] in
instance recvPts_storable (c : Dev nD) (k) (f) : BI.Storable (upEmb : UEmb _ 𝕄) (recvPts (F := F) c k f) := pts_storable _ _ _
omit [FloatOps F] in
instance localPts_storable (c : Dev nD) (k) (f) : BI.Storable (upEmb : UEmb _ 𝕄) (localPts (F := F) c k f) := pts_storable _ _ _
omit [FloatOps F] in
instance outPts_storable (c d : Dev nD) (k) (f) : BI.Storable (upEmb : UEmb _ 𝕄) (outPts (F := F) c d k f) := pts_storable _ _ _

/-! ## The schedule -/

/-- The credit of one chunk's transfer. -/
def N : ℕ := (rowsAt rM 0).view.dmaCredit
/-- A chunk's credit is not zero. -/
theorem N_pos : 0 < N := View.dmaCredit_pos _ (by decide)

/-- What a payment hands to device `c`. Its barrier is paid by the neighbour across the first axis (`false`), which hands
    over its receive buffer, and by the one across the second (`true`), which hands over the rows of its result that `c`
    computes. A transfer hands over the chunk it read and the chunk it wrote, each to the device that waits for it. -/
def pay (c : Dev nD) (d : Bool) : Option (Option J) → sProp 𝕄
  | none => iprop(emp)
  | some none => if d then bigSep Finset.univ (fun k : Fin 32 => iprop(∃ f, outPts (yp c) c k f))
      else bigSep Finset.univ (fun k : Fin 32 => iprop(∃ f, recvPts (xp c) k f))
  | some (some (0, k)) => farPts m c k
  | some (some (1, k)) => recvPts c k (part m (xp c) c)
  | some (some (2, k)) => iprop(localPts c k (part m c c) ∗ nearPts m c k)
  | some (some (3, k)) => outPts c c k (OUT m c)
  | some (some (4, k)) => outPts c (yp c) k (OUT m c)

instance pay_storable (c : Dev nD) (d : Bool) (j) : BI.Storable (upEmb : UEmb _ 𝕄) (pay m c d j) := by
  unfold pay
  split
  · infer_instance
  · split <;> infer_instance
  all_goals infer_instance

def dutiesOf : Option (Option J) → Finset Bool
  | none => ∅
  | some none => Finset.univ
  | some (some _) => {false}
def amountOf : Option (Option J) → ℕ
  | some none => 1
  | _ => N

/-- One round, round 0: a barrier cell has two duties of one unit each, a transfer cell one of a chunk's credit. -/
def Rd : Rounds.Schedule (GSem nD τ sig) Bool 𝕄 where
  duties g r := if r = 0 ∧ g.1.2 = .tc then dutiesOf (decode g.2) else ∅
  unitless _ := False
  amount g _ _ := amountOf (decode g.2)
  payload g _ d := pay m g.1.1 d (decode g.2)
  amount_pos g _ _ _ := by
    unfold amountOf
    split
    · exact Nat.one_pos
    · exact N_pos

instance Rd_payload_storable (g : GSem nD τ sig) (r : ℕ) (d : Bool) : BI.Storable (upEmb : UEmb _ 𝕄) ((Rd m).payload g r d) :=
  pay_storable m g.1.1 d (decode g.2)

section Sched
variable (c : Dev nD)

/-- The barrier's round has two payers. -/
theorem duties_bar : (Rd m).duties (barCell c) 0 = Finset.univ := by
  dsimp only [Rd]; exact if_pos ⟨rfl, rfl⟩
/-- A transfer's round has one payer. -/
theorem duties_cell (a : Fin 5) (k : Fin 32) : (Rd m).duties (cell c a k) 0 = {false} := by
  dsimp only [Rd]; exact (if_pos ⟨rfl, rfl⟩).trans (congrArg dutiesOf (decode_osem (a, k)))
/-- No cell has a second round. -/
theorem duties_later (g : GSem nD τ sig) : ∀ r, 1 ≤ r → (Rd m).duties g r = ∅ := fun r hr => by
  dsimp only [Rd]; exact if_neg fun h => by omega
/-- Each neighbour pays the barrier one unit. -/
theorem amount_bar (d : Bool) : (Rd m).amount (barCell c) 0 d = 1 := rfl
/-- A copy pays its semaphore the chunk's credit. -/
theorem amount_cell (a : Fin 5) (k : Fin 32) (d : Bool) : (Rd m).amount (cell c a k) 0 d = N :=
  congrArg amountOf (decode_osem (a, k))
/-- What a neighbour's signal hands over. -/
theorem payload_bar (d : Bool) : (Rd m).payload (barCell c) 0 d = pay m c d (some none) := rfl
/-- What a copy's completion hands over. -/
theorem payload_cell (a : Fin 5) (k : Fin 32) (d : Bool) : (Rd m).payload (cell c a k) 0 d = pay m c d (some (some (a, k))) :=
  congrArg (pay m c d) (decode_osem (a, k))

/-- The barrier's round is worth two. -/
theorem expect_bar : (Rd m).expect (barCell c) 0 = 2 := by
  unfold Schedule.expect Schedule.amountOf
  rw [duties_bar, Finset.sum_congr rfl fun d _ => amount_bar m c d, Finset.sum_const, Finset.card_univ, Fintype.card_bool, smul_eq_mul]
/-- A transfer's round is worth the chunk's credit. -/
theorem expect_cell (a : Fin 5) (k : Fin 32) : (Rd m).expect (cell c a k) 0 = N := by
  unfold Schedule.expect Schedule.amountOf; rw [duties_cell, Finset.sum_singleton, amount_cell]

/-- What the wait at the barrier receives: both neighbours' buffers. -/
theorem rest_bar : bigSep ((Rd m).duties (barCell c) 0 \ ∅) (fun d => (Rd m).payload (barCell c) 0 d)
    = iprop(bigSep Finset.univ (fun k : Fin 32 => iprop(∃ f, recvPts (xp c) k f))
        ∗ bigSep Finset.univ (fun k : Fin 32 => iprop(∃ f, outPts (yp c) c k f))) := by
  rw [Finset.sdiff_empty, duties_bar, bigSep_univ_eq_bigSepL [false, true] (by decide) (by decide), bigSepL_cons_cons, bigSepL_singleton]
  rfl
/-- What the wait for a copy receives. -/
theorem rest_cell (a : Fin 5) (k : Fin 32) :
    bigSep ((Rd m).duties (cell c a k) 0 \ ∅) (fun d => (Rd m).payload (cell c a k) 0 d) = pay m c false (some (some (a, k))) := by
  rw [Finset.sdiff_empty, duties_cell, bigSep_singleton, payload_cell]

end Sched

/-! ## What each device owes; the order of the cells -/

/-- The receives across the first axis still to be sent by device `c`, -/
def oweX (c : Dev nD) : List (Fin 32) → CellTallies nD τ sig Unit
  | [] => 0
  | k :: ks => oweX c ks + tallyAt (cell (xp c) 1 k) () N
/-- and those across the second. -/
def oweY (c : Dev nD) : List (Fin 32) → CellTallies nD τ sig Unit
  | [] => 0
  | k :: ks => oweY c ks + tallyAt (cell (yp c) 4 k) () N

/-- What device `c` owes after the barrier's signals, -/
def O₂ (c : Dev nD) : CellTallies nD τ sig Unit := oweY c chunks + oweX c chunks
/-- after the first of them, -/
def O₁ (c : Dev nD) : CellTallies nD τ sig Unit := O₂ c + tallyAt (barCell (yp c)) () 1
/-- and at launch. -/
def O₀ (c : Dev nD) : CellTallies nD τ sig Unit := O₁ c + tallyAt (barCell (xp c)) () 1

def L (g : GSem nD τ sig) : Finset Unit := if g.1.2 = .tc then {()} else ∅
/-- Only the cores have levels. -/
theorem L_of_ne (g : GSem nD τ sig) (h : g.1.2 ≠ .tc) : L g = ∅ := if_neg h
/-- Every semaphore of a core has one level. -/
theorem L_tc (c : Dev nD) (sm : SemLoc sig) : L ((c : Thread nD τ), sm) = {()} := if_pos rfl

/-- Barrier cells at 1, receives across the first axis at 2, across the second at 3, everything else at 0. -/
def rank : Option (Option J) → ℕ
  | some none => 1
  | some (some (1, _)) => 2
  | some (some (4, _)) => 3
  | _ => 0
def lv (g : GSem nD τ sig) (_ : Unit) : ℕ := rank (decode g.2)

/-- The level of a transfer's cell is its family's rank. -/
theorem lv_cell (c : Dev nD) (a : Fin 5) (k : Fin 32) : lv (cell c a k) () = rank (some (some (a, k))) :=
  congrArg rank (decode_osem (a, k))

/-- Every cell owed lies above level `n`. -/
def Above (n : ℕ) (O : CellTallies nD τ sig Unit) : Prop := ∀ g u, 0 < O g u → u ∈ L g ∧ n < lv g u

/-- Owing nothing is above every level. -/
theorem above_zero (n : ℕ) : Above n 0 := fun g u h => absurd h (Nat.lt_irrefl 0)
/-- Two debts above a level are together above it. -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- A debt at one semaphore is above what its rank is above. -/
theorem above_tally {n : ℕ} (c : Dev nD) (sm : SemLoc sig) (q : ℕ) (h : n < rank (decode sm)) : Above n (tallyAt ((c : Thread nD τ), sm) () q) := by
  intro g u hg
  obtain ⟨rfl, rfl⟩ := Pipeline.tallyAt_pos hg
  exact ⟨by rw [L_tc]; exact Finset.mem_singleton_self _, h⟩
/-- The same at a transfer's cell. -/
theorem above_cell {n : ℕ} (c : Dev nD) (a : Fin 5) (k : Fin 32) (h : n < rank (some (some (a, k)))) : Above n (tallyAt (cell c a k) () N) :=
  above_tally c _ N (by rw [show decode _ = _ from decode_osem (a, k)]; exact h)
/-- The debts along the first axis are above the barrier. -/
theorem above_oweX {n : ℕ} (hn : n < 2) (c : Dev nD) : ∀ ks, Above n (oweX c ks)
  | [] => above_zero n
  | k :: ks => above_add (above_oweX hn c ks) (above_cell (xp c) 1 k hn)
/-- The debts along the second axis are above the barrier and the first axis' receives. -/
theorem above_oweY {n : ℕ} (hn : n < 3) (c : Dev nD) : ∀ ks, Above n (oweY c ks)
  | [] => above_zero n
  | k :: ks => above_add (above_oweY hn c ks) (above_cell (yp c) 4 k hn)
/-- What is owed at the barrier's wait is above the barrier. -/
theorem above_O₂ {n : ℕ} (hn : n < 2) (c : Dev nD) : Above n (O₂ c) :=
  above_add (above_oweY (by omega) c _) (above_oweX hn c _)
/-- What is owed at launch is above the staging semaphores. -/
theorem above_O₀ (c : Dev nD) : Above 0 (O₀ c) :=
  above_add (above_add (above_O₂ (by decide) c) (above_tally (yp c) _ 1 Nat.one_pos)) (above_tally (xp c) _ 1 Nat.one_pos)

/-- A device may wait on a cell at level `n` while what it owes lies above. -/
theorem mayWait (n : ℕ) (c : Dev nD) (sm : SemLoc sig) (O : CellTallies nD τ sig Unit) (hs : rank (decode sm) ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hs)
    (fun g u hg => (hO g u hg).2)

end Cert.KernelIdeal.Exchange

end
-- ==== Proof.KernelIdeal.Rounds.lean ====
/-
# The rounds' rules

What each round of the three loops needs and what it leaves, and the rule for a loop of rounds.
-/
module

public import proofs.«01_k».proof.Proof.KernelIdeal.Cells

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-- The invariants of all cells, under the names they were allocated at, and that every cell has reached round 0. -/
def records (K : Dev nD × Option J → ℕ) : sProp 𝕄 :=
  iprop(bigSep Finset.univ (fun p => cellInv ER (Rd m) (K p) (kcell p)) ∗ bigSep Finset.univ (fun p => reached ER (kcell p) 0))

instance records_persistent (K : Dev nD × Option J → ℕ) : BI.Persistent (records m K) := by unfold records; infer_instance

variable (K : Dev nD × Option J → ℕ)

/-- The records hold every cell's invariant, -/
theorem inv_at (p : Dev nD × Option J) : records m K ⊢ cellInv ER (Rd m) (K p) (kcell p) := by
  unfold records
  iintro ⟨H, -⟩
  have h : (bigSep Finset.univ (fun p => cellInv ER (Rd m) (K p) (kcell p)) : sProp 𝕄) ⊢ cellInv ER (Rd m) (K p) (kcell p) :=
    bigSep_elim (Finset.mem_univ p)
  iapply h; iexact H
/-- and that every cell is at its first round. -/
theorem reached_at (p : Dev nD × Option J) : records m K ⊢ reached ER (kcell p) 0 := by
  unfold records
  iintro ⟨-, H⟩
  have h : (bigSep Finset.univ (fun p => reached ER (kcell p) 0) : sProp 𝕄) ⊢ reached ER (kcell p) 0 := bigSep_elim (Finset.mem_univ p)
  iapply h; iexact H

/-! ## What a copy leaves -/

/-- What a landed copy leaves in the receive buffer's chunk. -/
theorem landed_recv (c : Dev nD) (k : Fin 32) (fd : S2048x1024.Idx → Elt F .f32) : ∀ i ∈ (rowsAt rM k).view.set,
    (rowsAt rM k).view.write (Elt F) fd ((farAt xM c k).view.read (Elt F) (X m c)) Finset.univ i = part m c (xp c) i := fun i hi => by
  obtain ⟨y, -, rfl⟩ := Finset.mem_map.mp hi
  exact (View.write_emb_of_mem _ _ (Finset.mem_univ y)).trans (far_read m c k y)
/-- What a landed copy leaves in the local buffer's chunk. -/
theorem landed_local (c : Dev nD) (k : Fin 32) (fd : S2048x1024.Idx → Elt F .f32) : ∀ i ∈ (rowsAt lM k).view.set,
    (rowsAt lM k).view.write (Elt F) fd ((nearAt xM c k).view.read (Elt F) (X m c)) Finset.univ i = part m c c i := fun i hi => by
  obtain ⟨y, -, rfl⟩ := Finset.mem_map.mp hi
  exact (View.write_emb_of_mem _ _ (Finset.mem_univ y)).trans (near_read m c k y)
/-- What a landed copy leaves in the result's chunk. -/
theorem landed_out (c : Dev nD) (k : Fin 32) (fd : S4096x1024.Idx → Elt F .f32) : ∀ i ∈ (outAt oM c k).view.set,
    (outAt oM c k).view.write (Elt F) fd ((outAt oM c k).view.read (Elt F) (OUT m c)) Finset.univ i = OUT m (yp c) i := fun i hi => by
  obtain ⟨y, -, rfl⟩ := Finset.mem_map.mp hi
  exact (View.write_emb_of_mem _ _ (Finset.mem_univ y)).trans (OUT_side m c _).symm
/-- Storing the sum of the two chunks makes the result's chunk. -/
theorem stored_out (c : Dev nD) (k : Fin 32) (fd : S4096x1024.Idx → Elt F .f32) : ∀ i ∈ (outAt oM c k).view.set,
    (oM.access (outRect c k) : View sig .tc _ _ _).write (Elt F) fd
      (k0_pay1 (rM.view.readAt (Elt F) (rowRect k).toLoadRect (part m (xp c) c)) (lM.view.readAt (Elt F) (rowRect k).toLoadRect (part m c c)))
      Finset.univ i = OUT m c i := fun i hi => by
  rw [out_set] at hi
  obtain ⟨y, -, rfl⟩ := Finset.mem_map.mp ((Rect.map_emb_univ (outRect c k)).symm ▸ hi)
  exact (View.write_emb_of_mem _ _ (Finset.mem_univ y)).trans (add_out m c k y)

/-- The chunk stored is the result's chunk. -/
theorem stored_pts (c : Dev nD) (k : Fin 32) (fd : S4096x1024.Idx → Elt F .f32) :
    ((oM.access (outRect c k) : View sig .tc _ _ _).loc (c : Thread nD τ) ↦[(outAt oM c k).view.set]{fullShare}
        (oM.access (outRect c k) : View sig .tc _ _ _).write (Elt F) fd
          (k0_pay1 (rM.view.readAt (Elt F) (rowRect k).toLoadRect (part m (xp c) c)) (lM.view.readAt (Elt F) (rowRect k).toLoadRect (part m c c)))
          Finset.univ : sProp 𝕄)
      = outPts c c k (OUT m c) := pointsTo_congr (stored_out m c k fd)

/-! ## The three transfers -/

/-- Every chunk's transfer has the same credit. -/
theorem credit_recv (k : Fin 32) : (rowsAt rM k).view.dmaCredit = N := rfl
/-- The credit of a kept chunk, -/
theorem credit_local (k : Fin 32) : (rowsAt lM k).view.dmaCredit = N := rfl
/-- of a sent chunk, -/
theorem credit_far (c : Dev nD) (k : Fin 32) : (farAt xM c k).view.dmaCredit = N := rfl
/-- and of a sum. -/
theorem credit_out (c : Dev nD) (k : Fin 32) : (outAt oM c k).view.dmaCredit = N := rfl

/-- A receive chunk is whole words; -/
theorem word_recv (k : Fin 32) : (rowsAt rM k).view.WordExact := View.wordExact_bits rfl
/-- so is a local chunk, -/
theorem word_local (k : Fin 32) : (rowsAt lM k).view.WordExact := View.wordExact_bits rfl
/-- a sent chunk, -/
theorem word_far (c : Dev nD) (k : Fin 32) : (farAt xM c k).view.WordExact := (View.wordExact_bits rfl).reshape _ _
/-- a kept chunk -/
theorem word_near (c : Dev nD) (k : Fin 32) : (nearAt xM c k).view.WordExact := (View.wordExact_bits rfl).reshape _ _
/-- and a result's chunk. -/
theorem word_out (c : Dev nD) (k : Fin 32) : (outAt oM c k).view.WordExact := View.wordExact_bits rfl

section Transfers
variable {p : PUnit → Prog (TpuEff nD τ sig (Elt F) Λ₀ .tc) PUnit}

/-- A copy across the first axis: it hands the neighbour its received chunk and itself its sent one. -/
theorem wp_send_x {Φ : PUnit → sProp 𝕄} (c n : Dev nD) (hn : n = xp c) (k : Fin 32) {hsc : (rowsAt rM k : Memref sig (Dev.tc n : Thread nD τ).2.kind .vmem S64x1024 .f32).view.ref.isScScratch = false}
    {hsrc : (farAt xM c k).view.WordExact} {hdst : (rowsAt rM k).view.WordExact}
    {hsem : DmaTarget.Typed .hbm (.dma (semAt (arr 1) k).sem) (.remote (Dev.tc n : Thread nD τ) (rowsAt rM k) (.dma (semAt (arr 0) k).sem) hsc)}
    (fn : S2048x1024.Idx → Elt F .f32) (O : CellTallies nD τ sig Unit) (W : Waits sig Unit) :
    iprop(records m K ∗ farPts m c k ∗ recvPts (xp c) k fn
        ∗ owes (c : Thread nD τ) (O + tallyAt (cell (xp c) 1 k) () N) W
        ∗ dutyTok ER (cell c 0 k) 0 false ∗ dutyTok ER (cell (xp c) 1 k) 0 false)
      ⊢ iprop(((cred (tallyAt (cell c 0 k) () N) ∗ owes (c : Thread nD τ) O W) -∗ wp frame (wpE (defs₀ (F := F)) 𝒱₀ (c : Thread nD τ) none) Set.univ (p ⟨⟩) Φ)
          -∗ wp frame (wpE (defs₀ (F := F)) 𝒱₀ (c : Thread nD τ) none) Set.univ
              (.op (.enqueueDma (farAt xM c k) (.remote (Dev.tc n : Thread nD τ) (rowsAt rM k) (.dma (semAt (arr 0) k).sem) hsc) (.dma (semAt (arr 1) k).sem) hsrc hdst hsem) p) Φ) := by
  subst hn
  refine BIBase.Entails.trans ?_ (Rounds.wp_send_pointsTo 𝒱₀ ER (Rd m) (c : Thread nD τ) none (κ₁ := K (c, some (0, k))) (κ₂ := K (xp c, some (1, k)))
    (r₁ := 0) (r₂ := 0) (d₁ := false) (d₂ := false) (fs := X m c) (fd := fn) (q := halfL) (hsc := hsc) (hsrc := hsrc) (hdst := hdst) (hsem := hsem) (k := p) (Q := Φ)
    (by rw [duties_cell]; exact Finset.mem_singleton_self _) (by rw [duties_cell]; exact Finset.mem_singleton_self _)
    () () N rfl (amount_cell m c 0 k false) (amount_cell m (xp c) 1 k false) O rfl (W := W)
    (by rw [payload_cell]; exact BI.Entails.refl _)
    (by
      rw [payload_cell]
      show _ ⊢ recvPts (xp c) k (part m (xp (xp c)) (xp c))
      rw [xp_xp]
      exact Entails.of_eq (pointsTo_congr (landed_recv m c k fn))))
  iintro ⟨#HR, Hx, Hr, HO, HtS, HtV⟩
  isplitr; · iapply (inv_at m K (c, some (0, k))); iexact HR
  isplitr; · iapply (inv_at m K (xp c, some (1, k))); iexact HR
  isplitl [Hx]; · unfold farPts; iexact Hx
  isplitl [Hr]; · unfold recvPts; iexact Hr
  isplitl [HO]; · iexact HO
  isplitl [HtS]; · iexact HtS
  isplitr; · iapply (reached_at m K (c, some (0, k))); iexact HR
  isplitl [HtV]; · iexact HtV
  iapply (reached_at m K (xp c, some (1, k))); iexact HR

/-- A copy across the second axis: it hands the neighbour its chunk of the result and itself its own. -/
theorem wp_send_y {Φ : PUnit → sProp 𝕄} (c n : Dev nD) (hn : n = yp c) (k : Fin 32) {hsc : (outAt oM c k : Memref sig (Dev.tc n : Thread nD τ).2.kind .vmem S64x1024 .f32).view.ref.isScScratch = false}
    {hsrc : (outAt oM c k).view.WordExact} {hdst : (outAt oM c k).view.WordExact}
    {hsem : DmaTarget.Typed .vmem (.dma (semAt (arr 4) k).sem) (.remote (Dev.tc n : Thread nD τ) (outAt oM c k) (.dma (semAt (arr 3) k).sem) hsc)}
    (fn : S4096x1024.Idx → Elt F .f32) (O : CellTallies nD τ sig Unit) (W : Waits sig Unit) :
    iprop(records m K ∗ outPts c c k (OUT m c) ∗ outPts (yp c) c k fn
        ∗ owes (c : Thread nD τ) (O + tallyAt (cell (yp c) 4 k) () N) W
        ∗ dutyTok ER (cell c 3 k) 0 false ∗ dutyTok ER (cell (yp c) 4 k) 0 false)
      ⊢ iprop(((cred (tallyAt (cell c 3 k) () N) ∗ owes (c : Thread nD τ) O W) -∗ wp frame (wpE (defs₀ (F := F)) 𝒱₀ (c : Thread nD τ) none) Set.univ (p ⟨⟩) Φ)
          -∗ wp frame (wpE (defs₀ (F := F)) 𝒱₀ (c : Thread nD τ) none) Set.univ
              (.op (.enqueueDma (outAt oM c k) (.remote (Dev.tc n : Thread nD τ) (outAt oM c k) (.dma (semAt (arr 3) k).sem) hsc) (.dma (semAt (arr 4) k).sem) hsrc hdst hsem) p) Φ) := by
  subst hn
  refine BIBase.Entails.trans ?_ (Rounds.wp_send_pointsTo 𝒱₀ ER (Rd m) (c : Thread nD τ) none (κ₁ := K (c, some (3, k))) (κ₂ := K (yp c, some (4, k)))
    (r₁ := 0) (r₂ := 0) (d₁ := false) (d₂ := false) (fs := OUT m c) (fd := fn) (q := fullShare) (hsc := hsc) (hsrc := hsrc) (hdst := hdst) (hsem := hsem) (k := p) (Q := Φ)
    (by rw [duties_cell]; exact Finset.mem_singleton_self _) (by rw [duties_cell]; exact Finset.mem_singleton_self _)
    () () N rfl (amount_cell m c 3 k false) (amount_cell m (yp c) 4 k false) O rfl (W := W)
    (by rw [payload_cell]; exact BI.Entails.refl _)
    (by
      rw [payload_cell]
      show _ ⊢ outPts (yp c) (yp (yp c)) k (OUT m (yp c))
      rw [yp_yp]
      exact Entails.of_eq (pointsTo_congr (landed_out m c k fn))))
  iintro ⟨#HR, Hx, Hr, HO, HtS, HtV⟩
  isplitr; · iapply (inv_at m K (c, some (3, k))); iexact HR
  isplitr; · iapply (inv_at m K (yp c, some (4, k))); iexact HR
  isplitl [Hx]; · unfold outPts; iexact Hx
  isplitl [Hr]; · unfold outPts; iexact Hr
  isplitl [HO]; · iexact HO
  isplitl [HtS]; · iexact HtS
  isplitr; · iapply (reached_at m K (c, some (3, k))); iexact HR
  isplitl [HtV]; · iexact HtV
  iapply (reached_at m K (yp c, some (4, k))); iexact HR

/-- The local copy: it hands back both chunks. -/
theorem wp_copy_l {Φ : PUnit → sProp 𝕄} (c : Dev nD) (k : Fin 32) {hsrc : (nearAt xM c k).view.WordExact} {hdst : (rowsAt lM k).view.WordExact}
    {hsem : DmaTarget.Typed (τ := τ) (nD := nD) .hbm (.dma (semAt (arr 2) k).sem) (.here (p := .tc) (rowsAt lM k))}
    (fn : S2048x1024.Idx → Elt F .f32) :
    iprop(records m K ∗ nearPts m c k ∗ localPts c k fn ∗ dutyTok ER (cell c 2 k) 0 false)
      ⊢ iprop((cred (tallyAt (cell c 2 k) () N) -∗ wp frame (wpE (defs₀ (F := F)) 𝒱₀ (c : Thread nD τ) none) Set.univ (p ⟨⟩) Φ)
          -∗ wp frame (wpE (defs₀ (F := F)) 𝒱₀ (c : Thread nD τ) none) Set.univ
              (.op (.enqueueDma (nearAt xM c k) (.here (rowsAt lM k)) (.dma (semAt (arr 2) k).sem) hsrc hdst hsem) p) Φ) := by
  refine BIBase.Entails.trans ?_ (Rounds.wp_copy_pointsTo 𝒱₀ ER (Rd m) (c : Thread nD τ) none (κ := K (c, some (2, k)))
    (r := 0) (d := false) (fs := X m c) (fd := fn) (q := halfR) (hsrc := hsrc) (hdst := hdst) (hsem := hsem) (k := p) (Q := Φ)
    (by rw [duties_cell]; exact Finset.mem_singleton_self _)
    () N rfl (amount_cell m c 2 k false)
    (by
      rw [payload_cell]
      show _ ⊢ iprop(localPts c k (part m c c) ∗ nearPts m c k)
      unfold localPts nearPts
      exact sep_mono_left (Entails.of_eq (pointsTo_congr (landed_local m c k fn)))))
  iintro ⟨#HR, Hx, Hr, HtS⟩
  isplitr; · iapply (inv_at m K (c, some (2, k))); iexact HR
  isplitl [Hx]; · unfold nearPts; iexact Hx
  isplitl [Hr]; · unfold localPts; iexact Hr
  isplitl [HtS]; · iexact HtS
  iapply (reached_at m K (c, some (2, k))); iexact HR

/-- A wait for one chunk on a transfer cell: its payload, and the cell's counter at zero, the cell closed. -/
theorem wp_wait_cell (n : ℕ) {Φ : PUnit → sProp 𝕄} (c : Dev nD) (a : Fin 5) (k : Fin 32) {sp sp' : Space}
    {src : Memref sig .tc sp' S64x1024 .f32} {dst : Memref sig .tc sp S64x1024 .f32} (hsrc : src.view.WordExact) (hdst : dst.view.WordExact)
    (hN : dst.view.dmaCredit = N)
    (O : CellTallies nD τ sig Unit) (W : Waits sig Unit) (hs : rank (some (some (a, k))) ≤ n) (hO : Above n O) :
    iprop(records m K ∗ levAts L lv ∗ cred (tallyAt (cell c a k) () N) ∗ owes (c : Thread nD τ) O W ∗ atPos ER (cell c a k) 0 ∅ 0)
      ⊢ iprop(((∃ W, owes (c : Thread nD τ) O W) ∗ semVal (cell c a k) 0 ∗ pay m c false (some (some (a, k)))
            -∗ wp frame (wpE (defs₀ (F := F)) 𝒱₀ (c : Thread nD τ) none) Set.univ (p ⟨⟩) Φ)
          -∗ wp frame (wpE (defs₀ (F := F)) 𝒱₀ (c : Thread nD τ) none) Set.univ (.op (.waitDma2 (semAt (arr a) k).sem src dst hsrc hdst) p) Φ) := by
  iintro ⟨#HR, #Hlev, Hc, HO, Hat⟩ Hk
  iapply (Rounds.wp_wait_rest_token 𝒱₀ ER (Rd m) (c : Thread nD τ) none (κ := K (c, some (a, k)))
      (wpE_waitDma2_eq 𝒱₀ (c : Thread nD τ) none Set.univ) (Set.mem_univ _) () (O := O) (W := W) (R := 0) (m := 0) (T := ∅)
      (by rw [Nat.zero_add, expect_cell, hN])) $$ [Hc HO Hat]
  · isplitr; · iapply (inv_at m K (c, some (a, k))); iexact HR
    isplitl [Hc]; · rw [hN]; iexact Hc
    isplitl [HO]; · iexact HO
    isplitr; · iapply (mayWait n c _ O (by rw [show decode _ = _ from decode_osem (a, k)]; exact hs) hO); iexact Hlev
    iexact Hat
  iintro ⟨HO, Hat, -, Hpay⟩
  ihave Hp := (Entails.of_eq (rest_cell m c a k)) $$ Hpay
  imod (Rounds.cell_close ER (Rd m) (Set.mem_univ (K (c, some (a, k)))) (fun h => h) (R := 0 + 1) (duties_later m (cell c a k))) $$ [Hat] with Hz
  · isplitr; · iapply (inv_at m K (c, some (a, k))); iexact HR
    iexact Hat
  iapply Hk
  isplitl [HO]; · iexists _; iexact HO
  isplitl [Hz]; · iexact Hz
  iexact Hp

end Transfers

end Cert.KernelIdeal.Exchange

end
-- ==== Proof.KernelIdeal.Loops.lean ====
/-
# The three loops

What each round of a loop needs and what it leaves, from the rules of its operations; and a loop's rule from its rounds'.
-/
module

public import proofs.«01_k».proof.Proof.KernelIdeal.Rounds

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option J → ℕ)

/-- A part for each chunk of a list. -/
def over : List (Fin 32) → (Fin 32 → sProp 𝕄) → sProp 𝕄
  | [], _ => iprop(emp)
  | k :: ks, R => iprop(R k ∗ over ks R)

omit [FloatOps F] in
theorem over_eq (R : Fin 32 → sProp 𝕄) : ∀ ks : List (Fin 32), ks.Nodup → over ks R = bigSep ks.toFinset R
  | [], _ => rfl
  | k :: ks, h => by
    rw [over, List.toFinset_cons, bigSep_insert (by simpa using (List.nodup_cons.mp h).1), over_eq R ks (List.nodup_cons.mp h).2]; rfl

omit [FloatOps F] in
/-- Over the list of all chunks: a part for each chunk. -/
theorem over_chunks (R : Fin 32 → sProp 𝕄) : over chunks R = bigSep Finset.univ R := by
  rw [over_eq R chunks (by decide), show chunks.toFinset = Finset.univ by decide]

/-- A loop: if each round turns its own part `R k` into `R' k` and takes the running state from `S (k :: ks)` to `S ks`, the
    loop over `ks` turns all the parts and takes the state from `S ks` to `S []`. -/
theorem wp_each (c : Dev nD) (f : Fin 32 → Prog (TpuEff nD τ sig (Elt F) Λ₀ .tc) PUnit) (P : sProp 𝕄) [BI.Persistent P]
    (R R' : Fin 32 → sProp 𝕄) (S : List (Fin 32) → sProp 𝕄)
    (h : ∀ k ks, iprop(P ∗ R k ∗ S (k :: ks)) ⊢ wp frame (wpE (defs₀ (F := F)) 𝒱₀ (c : Thread nD τ) none) Set.univ (f k) (fun _ => iprop(R' k ∗ S ks))) :
    ∀ ks : List (Fin 32), iprop(P ∗ over ks R ∗ S ks)
      ⊢ wp frame (wpE (defs₀ (F := F)) 𝒱₀ (c : Thread nD τ) none) Set.univ (each f ks) (fun _ => iprop(over ks R' ∗ S []))
  | [] => by
    rw [each, Prog.pure_eq_ret, wp_ret, over, over]
    iintro ⟨-, -, HS⟩
    imodintro
    isplitr
    · iempintro
    iexact HS
  | k :: ks => by
    rw [each, wp_bind, over, over]
    iintro ⟨#HP, ⟨HR, HRs⟩, HS⟩
    iapply (wp_wand_r frame (wpE (defs₀ (F := F)) 𝒱₀ (c : Thread nD τ) none) Set.univ)
    isplitl [HR HS]
    · iapply (h k ks)
      isplitr; · iexact HP
      isplitl [HR]; · iexact HR
      iexact HS
    iintro %_ ⟨HR', HS⟩
    iapply (wp_wand_r frame (wpE (defs₀ (F := F)) 𝒱₀ (c : Thread nD τ) none) Set.univ)
    isplitl [HRs HS]
    · iapply (wp_each c f P R R' S h ks)
      isplitr; · iexact HP
      isplitl [HRs]; · iexact HRs
      iexact HS
    iintro %_ ⟨HRs', HS⟩
    isplitl [HR' HRs']
    · isplitl [HR']; · iexact HR'
      iexact HRs'
    iexact HS

/-! ## What the rounds need and leave -/

/-- What every round may use again and again. -/
def ctx : sProp 𝕄 := iprop(records m K ∗ levAts L lv)
instance ctx_persistent : BI.Persistent (ctx m K) := by unfold ctx; infer_instance

def R₁ (c : Dev nD) (k : Fin 32) : sProp 𝕄 :=
  iprop(farPts m c k ∗ nearPts m c k ∗ (∃ f, recvPts (xp c) k f) ∗ (∃ f, localPts c k f)
    ∗ dutyTok ER (cell c 0 k) 0 false ∗ dutyTok ER (cell (xp c) 1 k) 0 false ∗ dutyTok ER (cell c 2 k) 0 false)
def R₁' (c : Dev nD) (k : Fin 32) : sProp 𝕄 := iprop(cred (tallyAt (cell c 0 k) () N) ∗ cred (tallyAt (cell c 2 k) () N))
def S₁ (c : Dev nD) (ks : List (Fin 32)) : sProp 𝕄 := iprop(∃ W, owes (c : Thread nD τ) (oweY c chunks + oweX c ks) W)

def R₂ (c : Dev nD) (k : Fin 32) : sProp 𝕄 :=
  iprop(cred (tallyAt (cell c 2 k) () N) ∗ cred (tallyAt (cell c 1 k) () N) ∗ atPos ER (cell c 2 k) 0 ∅ 0 ∗ atPos ER (cell c 1 k) 0 ∅ 0
    ∗ (∃ f, outPts c c k f) ∗ (∃ f, outPts (yp c) c k f) ∗ dutyTok ER (cell c 3 k) 0 false ∗ dutyTok ER (cell (yp c) 4 k) 0 false)
def R₂' (c : Dev nD) (k : Fin 32) : sProp 𝕄 :=
  iprop(semVal (cell c 2 k) 0 ∗ semVal (cell c 1 k) 0 ∗ recvPts c k (part m (xp c) c) ∗ localPts c k (part m c c) ∗ nearPts m c k
    ∗ cred (tallyAt (cell c 3 k) () N))
def S₂ (c : Dev nD) (ks : List (Fin 32)) : sProp 𝕄 := iprop(∃ W, owes (c : Thread nD τ) (oweY c ks) W)

def R₃ (c : Dev nD) (k : Fin 32) : sProp 𝕄 :=
  iprop(cred (tallyAt (cell c 0 k) () N) ∗ cred (tallyAt (cell c 3 k) () N) ∗ cred (tallyAt (cell c 4 k) () N)
    ∗ atPos ER (cell c 0 k) 0 ∅ 0 ∗ atPos ER (cell c 3 k) 0 ∅ 0 ∗ atPos ER (cell c 4 k) 0 ∅ 0)
def R₃' (c : Dev nD) (k : Fin 32) : sProp 𝕄 :=
  iprop(semVal (cell c 0 k) 0 ∗ semVal (cell c 3 k) 0 ∗ semVal (cell c 4 k) 0
    ∗ farPts m c k ∗ outPts c c k (OUT m c) ∗ outPts c (yp c) k (OUT m c))
def S₃ (c : Dev nD) (_ : List (Fin 32)) : sProp 𝕄 := iprop(∃ W, owes (c : Thread nD τ) 0 W)

/-! ## The rounds -/

/-- An iteration of the start loop: both copies of the chunk are started. -/
theorem start_round (c : Dev nD) (k : Fin 32) (ks : List (Fin 32)) : iprop(ctx m K ∗ R₁ m c k ∗ S₁ c (k :: ks))
    ⊢ wp frame (wpE (defs₀ (F := F)) 𝒱₀ (c : Thread nD τ) none) Set.univ (startRound xM rM lM (arr 0) (arr 1) (arr 2) c k)
        (fun _ => iprop(R₁' c k ∗ S₁ c ks)) := by
  unfold startRound ctx R₁ S₁
  simp only [Prog.lift, Prog.bind_op, Prog.bind_ret]
  iintro ⟨⟨#HR, #Hlev⟩, ⟨Hfar, Hnear, ⟨%fr, Hrecv⟩, ⟨%fl, Hloc⟩, Ht0, Ht1, Ht2⟩, ⟨%W, HO⟩⟩
  iapply (wp_send_x m K c _ (dev3_eq c) k fr (oweY c chunks + oweX c ks) W) $$ [Hfar Hrecv HO Ht0 Ht1]
  · isplitr; · iexact HR
    isplitl [Hfar]; · iexact Hfar
    isplitl [Hrecv]; · iexact Hrecv
    isplitl [HO]; · rw [oweX, ← add_assoc]; iexact HO
    isplitl [Ht0]; · iexact Ht0
    iexact Ht1
  iintro ⟨Hc0, HO⟩
  iapply (wp_copy_l m K c k fl) $$ [Hnear Hloc Ht2]
  · isplitr; · iexact HR
    isplitl [Hnear]; · iexact Hnear
    isplitl [Hloc]; · iexact Hloc
    iexact Ht2
  iintro Hc2
  rw [wp_ret]; imodintro
  unfold R₁'
  isplitl [Hc0 Hc2]
  · isplitl [Hc0]; · iexact Hc0
    iexact Hc2
  iexists W; iexact HO

/-- An iteration of the add loop: the chunk is received, added and sent on. -/
theorem add_round (c : Dev nD) (k : Fin 32) (ks : List (Fin 32)) : iprop(ctx m K ∗ R₂ c k ∗ S₂ c (k :: ks))
    ⊢ wp frame (wpE (defs₀ (F := F)) 𝒱₀ (c : Thread nD τ) none) Set.univ (addRound xM oM rM lM (arr 1) (arr 2) (arr 3) (arr 4) c k)
        (fun _ => iprop(R₂' m c k ∗ S₂ c ks)) := by
  unfold addRound ctx R₂ S₂
  simp only [Prog.lift, Prog.bind_op, Prog.bind_ret]
  iintro ⟨⟨#HR, #Hlev⟩, ⟨Hc2, Hc1, Ha2, Ha1, ⟨%fo, Hout⟩, ⟨%fp, Hpeer⟩, Ht3, Ht4⟩, ⟨%W, HO⟩⟩
  -- the local chunk
  iapply (wp_wait_cell m K 0 c 2 k (word_near c k) (word_local k) (credit_local k) (oweY c (k :: ks)) W (le_refl 0)
    (above_oweY (by decide) c _)) $$ [Hc2 Ha2 HO]
  · isplitr; · iexact HR
    isplitr; · iexact Hlev
    isplitl [Hc2]; · iexact Hc2
    isplitl [HO]; · iexact HO
    iexact Ha2
  iintro ⟨⟨%W1, HO⟩, Hz2, Hp⟩
  unfold pay
  icases Hp with ⟨Hloc, Hnear⟩
  -- the chunk from across the first axis
  iapply (wp_wait_cell m K 2 c 1 k (word_far c k) (word_recv k) (credit_recv k) (oweY c (k :: ks)) W1 (le_refl 2)
    (above_oweY (by decide) c _)) $$ [Hc1 Ha1 HO]
  · isplitr; · iexact HR
    isplitr; · iexact Hlev
    isplitl [Hc1]; · iexact Hc1
    isplitl [HO]; · iexact HO
    iexact Ha1
  iintro ⟨⟨%W2, HO⟩, Hz1, Hrecv⟩
  -- the sum, stored
  ihave Hrecv := (Entails.of_eq (show pay m c false (some (some (1, k)))
    = (rM.view.loc (c : Thread nD τ) ↦[(rowsAt rM k).view.set]{fullShare} part m (xp c) c) from rfl)) $$ Hrecv
  ihave Hloc := (Entails.of_eq (show localPts c k (part m c c)
    = (lM.view.loc (c : Thread nD τ) ↦[(rowsAt lM k).view.set]{fullShare} part m c c) from rfl)) $$ Hloc
  ihave Hout := (Entails.of_eq (show outPts c c k fo
    = (oM.view.loc (c : Thread nD τ) ↦[(outAt oM c k).view.set]{fullShare} fo) from rfl)) $$ Hout
  iapply (wp_load 𝒱₀ (c : Thread nD τ) none Set.univ (m := rM) (S := (rowsAt rM k).view.set) (f := part m (xp c) c) (Eq.subset (View.set_slice _ _).symm)) $$ Hrecv; iintro Hrecv
  iapply (wp_load 𝒱₀ (c : Thread nD τ) none Set.univ (m := lM) (S := (rowsAt lM k).view.set) (f := part m c c) (Eq.subset (View.set_slice _ _).symm)) $$ Hloc; iintro Hloc
  iapply (wp_load 𝒱₀ (c : Thread nD τ) none Set.univ (m := oM) (S := (outAt oM c k).view.set) (f := fo) (Eq.subset (View.set_slice _ _).symm)) $$ Hout; iintro Hout
  iapply (wp_store 𝒱₀ (c : Thread nD τ) none Set.univ (m := oM) (r := outRect c k) (Mk := Finset.univ) (S := (outAt oM c k).view.set) (f := fo) (subset_refl _)) $$ Hout; iintro Hout
  ihave Hout := (Entails.of_eq (stored_pts m c k fo)) $$ Hout
  -- the chunk sent on
  iapply (wp_send_y m K c _ (dev35_eq c) k fp (oweY c ks) W2) $$ [Hout Hpeer HO Ht3 Ht4]
  · isplitr; · iexact HR
    isplitl [Hout]; · iexact Hout
    isplitl [Hpeer]; · iexact Hpeer
    isplitl [HO]; · iexact HO
    isplitl [Ht3]; · iexact Ht3
    iexact Ht4
  iintro ⟨Hc3, HO⟩
  rw [wp_ret]; imodintro
  unfold R₂' recvPts localPts
  isplitr [HO]
  · isplitl [Hz2]; · iexact Hz2
    isplitl [Hz1]; · iexact Hz1
    isplitl [Hrecv]; · iexact Hrecv
    isplitl [Hloc]; · iexact Hloc
    isplitl [Hnear]; · iexact Hnear
    iexact Hc3
  iexists W2; iexact HO

/-- An iteration of the wait loop: the chunk's last three copies are waited for. -/
theorem wait_round (c : Dev nD) (k : Fin 32) (ks : List (Fin 32)) : iprop(ctx m K ∗ R₃ c k ∗ S₃ c (k :: ks))
    ⊢ wp frame (wpE (defs₀ (F := F)) 𝒱₀ (c : Thread nD τ) none) Set.univ (waitRound xM oM rM (arr 0) (arr 3) (arr 4) c k)
        (fun _ => iprop(R₃' m c k ∗ S₃ c ks)) := by
  unfold waitRound ctx R₃ S₃
  simp only [Prog.lift, Prog.bind_op, Prog.bind_ret]
  iintro ⟨⟨#HR, #Hlev⟩, ⟨Hc0, Hc3, Hc4, Ha0, Ha3, Ha4⟩, ⟨%W, HO⟩⟩
  iapply (wp_wait_cell m K 3 c 0 k (word_recv k) (word_far c k) (credit_far c k) 0 W (Nat.zero_le 3) (above_zero _)) $$ [Hc0 Ha0 HO]
  · isplitr; · iexact HR
    isplitr; · iexact Hlev
    isplitl [Hc0]; · iexact Hc0
    isplitl [HO]; · iexact HO
    iexact Ha0
  iintro ⟨⟨%W1, HO⟩, Hz0, Hfar⟩
  iapply (wp_wait_cell m K 3 c 3 k (word_out c k) (word_out c k) (credit_out c k) 0 W1 (Nat.zero_le 3) (above_zero _)) $$ [Hc3 Ha3 HO]
  · isplitr; · iexact HR
    isplitr; · iexact Hlev
    isplitl [Hc3]; · iexact Hc3
    isplitl [HO]; · iexact HO
    iexact Ha3
  iintro ⟨⟨%W2, HO⟩, Hz3, Hown⟩
  iapply (wp_wait_cell m K 3 c 4 k (word_out c k) (word_out c k) (credit_out c k) 0 W2 (le_refl 3) (above_zero _)) $$ [Hc4 Ha4 HO]
  · isplitr; · iexact HR
    isplitr; · iexact Hlev
    isplitl [Hc4]; · iexact Hc4
    isplitl [HO]; · iexact HO
    iexact Ha4
  iintro ⟨⟨%W3, HO⟩, Hz4, Hoth⟩
  rw [wp_ret]; imodintro
  unfold R₃' pay
  isplitr [HO]
  · isplitl [Hz0]; · iexact Hz0
    isplitl [Hz3]; · iexact Hz3
    isplitl [Hz4]; · iexact Hz4
    isplitl [Hfar]; · iexact Hfar
    isplitl [Hown]; · iexact Hown
    iexact Hoth
  iexists W3; iexact HO

end Cert.KernelIdeal.Exchange

end
-- ==== Proof.KernelIdeal.Pieces.lean ====
/-
# Whole buffers and their chunks

A buffer held whole is its chunks held one by one: the receive buffer and the local buffer by their 32 chunks, the result's
staging buffer by the 32 chunks its device computes and the 32 its neighbour computes, and `x` by the chunks sent (at half
of the share), the chunks kept (at the other half) and the rest.
-/
module

public import proofs.«01_k».proof.Proof.KernelIdeal.Loops

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The whole buffers -/

/-- Device `c`'s block of `x`, whole and untouched; -/
def xWhole (c : Dev nD) : sProp 𝕄 := xM.view.loc (c : Thread nD τ) ↦{fullShare} X m c
/-- its receive buffer; -/
def recvWhole (c : Dev nD) (f : S2048x1024.Idx → Elt F .f32) : sProp 𝕄 := rM.view.loc (c : Thread nD τ) ↦{fullShare} f
/-- its local buffer; -/
def localWhole (c : Dev nD) (f : S2048x1024.Idx → Elt F .f32) : sProp 𝕄 := lM.view.loc (c : Thread nD τ) ↦{fullShare} f
/-- its result's staging buffer. -/
def outWhole (c : Dev nD) (f : S4096x1024.Idx → Elt F .f32) : sProp 𝕄 := oM.view.loc (c : Thread nD τ) ↦{fullShare} f

omit [FloatOps F] in
/-- A family of disjoint sets that covers the buffer splits it. -/
theorem whole_split {T : Type} [Fintype T] [DecidableEq T] {ℓ : Loc nD τ sig} (K : T → Finset (Idx ℓ)) (f : Buf (Elt F) ℓ)
    (hd : ∀ t t', t ≠ t' → Disjoint (K t) (K t')) (hc : Finset.univ.biUnion K = Finset.univ) :
    (ℓ ↦{fullShare} f : sProp 𝕄) = bigSep Finset.univ fun t => ℓ ↦[K t]{fullShare} f := by
  rw [← pointsTo_biUnion Finset.univ K fun t _ t' _ => hd t t', hc]

omit [FloatOps F] in
theorem recv_chunks (c : Dev nD) (f : S2048x1024.Idx → Elt F .f32) :
    (recvWhole c f : sProp 𝕄) = bigSep Finset.univ fun k : Fin 32 => recvPts c k f :=
  whole_split (T := Fin 32) (ℓ := rM.view.loc (c : Thread nD τ)) (fun k => (rowsAt rM k).view.set) f
    (fun k k' h => by rw [recv_set, recv_set]; exact rows_disjoint k k' h)
    (by rw [funext recv_set]; exact rows_cover)

omit [FloatOps F] in
theorem local_chunks (c : Dev nD) (f : S2048x1024.Idx → Elt F .f32) :
    (localWhole c f : sProp 𝕄) = bigSep Finset.univ fun k : Fin 32 => localPts c k f :=
  whole_split (T := Fin 32) (ℓ := lM.view.loc (c : Thread nD τ)) (fun k => (rowsAt lM k).view.set) f
    (fun k k' h => by rw [local_set, local_set]; exact rows_disjoint k k' h)
    (by rw [funext local_set]; exact rows_cover)

omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem out_chunks (c : Dev nD) (f : S4096x1024.Idx → Elt F .f32) : (outWhole c f : sProp 𝕄)
    = iprop(bigSep Finset.univ (fun k : Fin 32 => outPts c c k f) ∗ bigSep Finset.univ (fun k : Fin 32 => outPts c (yp c) k f)) := by
  refine (whole_split (T := Bool × Fin 32) (ℓ := oM.view.loc (c : Thread nD τ)) (fun p => (outAt oM (side c p.1) p.2).view.set) f
    (fun p p' h => by rw [out_set, out_set]; exact side_disjoint c p p' h)
    (by rw [funext fun p : Bool × Fin 32 => out_set (side c p.1) p.2]; exact side_cover c)).trans ?_
  rw [bigSep_univ_prod, bigSep_bool]
  rfl

/-- The part of `x` that is no chunk sent, at one half of the share, and no chunk kept, at the other. -/
def xRest (c : Dev nD) : sProp 𝕄 :=
  iprop((xM.view.loc (c : Thread nD τ) ↦[Finset.univ \ Finset.univ.biUnion fun k : Fin 32 => (farAt xM c k).view.set]{halfL} X m c)
    ∗ (xM.view.loc (c : Thread nD τ) ↦[Finset.univ \ Finset.univ.biUnion fun k : Fin 32 => (nearAt xM c k).view.set]{halfR} X m c))

omit [FloatOps F] in
/-- A disjoint family of sets within a buffer splits it, at any share, into the family and the rest. -/
theorem part_split {T : Type} [Fintype T] [DecidableEq T] {ℓ : Loc nD τ sig} (q : PosShare TreeShare) (K : T → Finset (Idx ℓ)) (f : Buf (Elt F) ℓ)
    (hd : ∀ t t', t ≠ t' → Disjoint (K t) (K t')) :
    (ℓ ↦{q} f : sProp 𝕄) = iprop(bigSep Finset.univ (fun t => ℓ ↦[K t]{q} f) ∗ (ℓ ↦[Finset.univ \ Finset.univ.biUnion K]{q} f)) := by
  have h : (ℓ ↦{q} f : sProp 𝕄) ⊣⊢ iprop((ℓ ↦[Finset.univ.biUnion K]{q} f) ∗ ℓ ↦[Finset.univ \ Finset.univ.biUnion K]{q} f) :=
    pointsTo_split_subset (Finset.subset_univ _)
  rw [BI.equiv_iff.mp ⟨h.1, h.2⟩, pointsTo_biUnion Finset.univ K fun t _ t' _ => hd t t']

omit [FloatOps F] in
theorem sep_cross (P Q R S : sProp 𝕄) : iprop((P ∗ Q) ∗ (R ∗ S)) = iprop((P ∗ R) ∗ (Q ∗ S)) := by
  have h : iprop((P ∗ Q) ∗ (R ∗ S)) ⊣⊢ iprop((P ∗ R) ∗ (Q ∗ S)) := sep_sep_sep_comm
  exact BI.equiv_iff.mp ⟨h.1, h.2⟩

omit [FloatOps F] in
theorem x_chunks (c : Dev nD) : (xWhole m c : sProp 𝕄)
    = iprop((bigSep Finset.univ (fun k : Fin 32 => farPts m c k) ∗ bigSep Finset.univ (fun k : Fin 32 => nearPts m c k)) ∗ xRest m c) := by
  have h : (xWhole m c : sProp 𝕄) ⊣⊢ iprop((xM.view.loc (c : Thread nD τ) ↦{halfL} X m c) ∗ (xM.view.loc (c : Thread nD τ) ↦{halfR} X m c)) :=
    pointsTo_share (by rw [show PCS.op halfL halfR = _ from PosShare.left_op_right fullShare]; exact Part.mem_some _)
  rw [BI.equiv_iff.mp ⟨h.1, h.2⟩,
    part_split (T := Fin 32) (ℓ := xM.view.loc (c : Thread nD τ)) halfL (fun k => (farAt xM c k).view.set) (X m c) (far_disjoint c),
    part_split (T := Fin 32) (ℓ := xM.view.loc (c : Thread nD τ)) halfR (fun k => (nearAt xM c k).view.set) (X m c) (near_disjoint c)]
  exact sep_cross _ _ _ _

/-! ## The chunks of a buffer of unknown contents -/

omit [FloatOps F] in
theorem forget {A : Type} (G : Fin 32 → A → sProp 𝕄) (f : A) :
    bigSep Finset.univ (fun k : Fin 32 => G k f) ⊢ bigSep Finset.univ fun k : Fin 32 => iprop(∃ f, G k f) :=
  bigSep_mono fun k _ => show G k f ⊢ iprop(∃ f, G k f) by
    iintro H; iexists f; iexact H

omit [FloatOps F] in
theorem recv_some (c : Dev nD) : (iprop(∃ f, recvWhole c f) : sProp 𝕄) ⊢ bigSep Finset.univ fun k : Fin 32 => iprop(∃ f, recvPts c k f) := by
  iintro ⟨%f, H⟩
  ihave H := (Entails.of_eq (recv_chunks c f)) $$ H
  iapply (forget (recvPts c) f); iexact H
omit [FloatOps F] in
theorem local_some (c : Dev nD) : (iprop(∃ f, localWhole c f) : sProp 𝕄) ⊢ bigSep Finset.univ fun k : Fin 32 => iprop(∃ f, localPts c k f) := by
  iintro ⟨%f, H⟩
  ihave H := (Entails.of_eq (local_chunks c f)) $$ H
  iapply (forget (localPts c) f); iexact H
omit [FloatOps F] in
theorem out_some (c : Dev nD) : (iprop(∃ f, outWhole c f) : sProp 𝕄)
    ⊢ iprop(bigSep Finset.univ (fun k : Fin 32 => iprop(∃ f, outPts c c k f)) ∗ bigSep Finset.univ (fun k : Fin 32 => iprop(∃ f, outPts c (yp c) k f))) := by
  iintro ⟨%f, H⟩
  ihave H := (Entails.of_eq (out_chunks c f)) $$ H
  icases H with ⟨H1, H2⟩
  isplitl [H1]
  · iapply (forget (outPts c c) f); iexact H1
  iapply (forget (outPts c (yp c)) f); iexact H2

end Cert.KernelIdeal.Exchange

end
-- ==== Proof.KernelIdeal.Body.lean ====
/-
# The body

What a device's body starts from and what it ends with, and that the body takes it from the one to the other: the
handshake, which exchanges the buffers' chunks between neighbours, and the three loops.
-/
module

public import proofs.«01_k».proof.Proof.KernelIdeal.Pieces

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option J → ℕ)

/-! ## What a device starts from -/

omit [FloatOps F] in
/-- Over the transfer cells: family by family. -/
theorem bigSep_J (Φ : J → sProp 𝕄) : bigSep Finset.univ Φ
    = iprop(bigSep Finset.univ (fun k => Φ (0, k)) ∗ bigSep Finset.univ (fun k => Φ (1, k)) ∗ bigSep Finset.univ (fun k => Φ (2, k))
        ∗ bigSep Finset.univ (fun k => Φ (3, k)) ∗ bigSep Finset.univ (fun k => Φ (4, k))) := by
  rw [bigSep_univ_prod, bigSep_univ_eq_bigSepL [0, 1, 2, 3, 4] (by decide) (by decide)]
  rfl

/-- Its positions at its own cells. -/
def places (c : Dev nD) : sProp 𝕄 :=
  iprop(atPos ER (barCell c) 0 ∅ 0 ∗ bigSep Finset.univ fun j : J => atPos ER (cell c j.1 j.2) 0 ∅ 0)
/-- The tokens of the duties it pays. -/
def payToks (c : Dev nD) : sProp 𝕄 :=
  iprop(dutyTok ER (barCell (xp c)) 0 false ∗ dutyTok ER (barCell (yp c)) 0 true
    ∗ bigSep Finset.univ (fun k : Fin 32 => dutyTok ER (cell c 0 k) 0 false) ∗ bigSep Finset.univ (fun k : Fin 32 => dutyTok ER (cell (xp c) 1 k) 0 false)
    ∗ bigSep Finset.univ (fun k : Fin 32 => dutyTok ER (cell c 2 k) 0 false) ∗ bigSep Finset.univ (fun k : Fin 32 => dutyTok ER (cell c 3 k) 0 false)
    ∗ bigSep Finset.univ (fun k : Fin 32 => dutyTok ER (cell (yp c) 4 k) 0 false))
def ghost (c : Dev nD) : sProp 𝕄 := iprop(records m K ∗ places c ∗ payToks c)
/-- The credit for what its neighbours owe it. -/
def credits (c : Dev nD) : sProp 𝕄 :=
  iprop(cred (tallyAt (barCell c) () 2) ∗ bigSep Finset.univ (fun k : Fin 32 => cred (tallyAt (cell c 1 k) () N))
    ∗ bigSep Finset.univ (fun k : Fin 32 => cred (tallyAt (cell c 4 k) () N)))

def start (c : Dev nD) : sProp 𝕄 := iprop((∃ K, ghost m K c) ∗ credits c ∗ levAts L lv ∗ xWhole m c)

def Φ₀ (c : Dev nD) : sProp 𝕄 := iprop(start m c ∗ (∃ f, recvWhole c f) ∗ ∃ f, localWhole c f)
/-- After the body: `x` as it was, the two scratch buffers, every cell closed with its counter at zero. -/
def Φ₁ (c : Dev nD) : sProp 𝕄 :=
  iprop(xWhole m c ∗ (∃ f, recvWhole c f) ∗ (∃ f, localWhole c f) ∗ semVal (barCell c) 0
    ∗ bigSep Finset.univ fun j : J => semVal (cell c j.1 j.2) 0)

/-! ## The loops' parts, family by family -/

/-- What the start loop needs over all chunks, family by family. -/
theorem over_R₁ (c : Dev nD) : over chunks (R₁ m c) = iprop(bigSep Finset.univ (fun k => farPts m c k) ∗ bigSep Finset.univ (fun k => nearPts m c k)
    ∗ bigSep Finset.univ (fun k => iprop(∃ f, recvPts (xp c) k f)) ∗ bigSep Finset.univ (fun k => iprop(∃ f, localPts c k f))
    ∗ bigSep Finset.univ (fun k => dutyTok ER (cell c 0 k) 0 false) ∗ bigSep Finset.univ (fun k => dutyTok ER (cell (xp c) 1 k) 0 false)
    ∗ bigSep Finset.univ (fun k => dutyTok ER (cell c 2 k) 0 false)) := by
  rw [over_chunks]; unfold R₁; simp only [bigSep_sep']
/-- What the start loop leaves over all chunks, family by family. -/
theorem over_R₁' (c : Dev nD) : over chunks (R₁' (F := F) c) = iprop(bigSep Finset.univ (fun k => cred (tallyAt (cell c 0 k) () N))
    ∗ bigSep Finset.univ (fun k => cred (tallyAt (cell c 2 k) () N))) := by
  rw [over_chunks]; unfold R₁'; simp only [bigSep_sep']
/-- What the add loop needs over all chunks, family by family. -/
theorem over_R₂ (c : Dev nD) : over chunks (R₂ (F := F) c) = iprop(bigSep Finset.univ (fun k => cred (tallyAt (cell c 2 k) () N))
    ∗ bigSep Finset.univ (fun k => cred (tallyAt (cell c 1 k) () N)) ∗ bigSep Finset.univ (fun k => atPos ER (cell c 2 k) 0 ∅ 0)
    ∗ bigSep Finset.univ (fun k => atPos ER (cell c 1 k) 0 ∅ 0) ∗ bigSep Finset.univ (fun k => iprop(∃ f, outPts c c k f))
    ∗ bigSep Finset.univ (fun k => iprop(∃ f, outPts (yp c) c k f)) ∗ bigSep Finset.univ (fun k => dutyTok ER (cell c 3 k) 0 false)
    ∗ bigSep Finset.univ (fun k => dutyTok ER (cell (yp c) 4 k) 0 false)) := by
  rw [over_chunks]; unfold R₂; simp only [bigSep_sep']
/-- What the add loop leaves over all chunks, family by family. -/
theorem over_R₂' (c : Dev nD) : over chunks (R₂' m c) = iprop(bigSep Finset.univ (fun k => semVal (cell c 2 k) 0)
    ∗ bigSep Finset.univ (fun k => semVal (cell c 1 k) 0) ∗ bigSep Finset.univ (fun k => recvPts c k (part m (xp c) c))
    ∗ bigSep Finset.univ (fun k => localPts c k (part m c c)) ∗ bigSep Finset.univ (fun k => nearPts m c k)
    ∗ bigSep Finset.univ (fun k => cred (tallyAt (cell c 3 k) () N))) := by
  rw [over_chunks]; unfold R₂'; simp only [bigSep_sep']
/-- What the wait loop needs over all chunks, family by family. -/
theorem over_R₃ (c : Dev nD) : over chunks (R₃ (F := F) c) = iprop(bigSep Finset.univ (fun k => cred (tallyAt (cell c 0 k) () N))
    ∗ bigSep Finset.univ (fun k => cred (tallyAt (cell c 3 k) () N)) ∗ bigSep Finset.univ (fun k => cred (tallyAt (cell c 4 k) () N))
    ∗ bigSep Finset.univ (fun k => atPos ER (cell c 0 k) 0 ∅ 0) ∗ bigSep Finset.univ (fun k => atPos ER (cell c 3 k) 0 ∅ 0)
    ∗ bigSep Finset.univ (fun k => atPos ER (cell c 4 k) 0 ∅ 0)) := by
  rw [over_chunks]; unfold R₃; simp only [bigSep_sep']
/-- What the wait loop leaves over all chunks, family by family. -/
theorem over_R₃' (c : Dev nD) : over chunks (R₃' m c) = iprop(bigSep Finset.univ (fun k => semVal (cell c 0 k) 0)
    ∗ bigSep Finset.univ (fun k => semVal (cell c 3 k) 0) ∗ bigSep Finset.univ (fun k => semVal (cell c 4 k) 0)
    ∗ bigSep Finset.univ (fun k => farPts m c k) ∗ bigSep Finset.univ (fun k => outPts c c k (OUT m c))
    ∗ bigSep Finset.univ (fun k => outPts c (yp c) k (OUT m c))) := by
  rw [over_chunks]; unfold R₃'; simp only [bigSep_sep']

/-! ## The loops -/

/-- A loop followed by the rest of the program. -/
theorem wp_loop {A : Type} {p : PUnit → Prog (TpuEff nD τ sig (Elt F) Λ₀ .tc) A} {Φ : A → sProp 𝕄} (c : Dev nD) (f : Fin 32 → Prog (TpuEff nD τ sig (Elt F) Λ₀ .tc) PUnit)
    (R R' : Fin 32 → sProp 𝕄) (S : List (Fin 32) → sProp 𝕄)
    (h : ∀ k ks, iprop(ctx m K ∗ R k ∗ S (k :: ks)) ⊢ wp frame (wpE (defs₀ (F := F)) 𝒱₀ (c : Thread nD τ) none) Set.univ (f k) (fun _ => iprop(R' k ∗ S ks))) :
    iprop(ctx m K ∗ over chunks R ∗ S chunks)
      ⊢ iprop(((over chunks R' ∗ S []) -∗ wp frame (wpE (defs₀ (F := F)) 𝒱₀ (c : Thread nD τ) none) Set.univ (p ⟨⟩) Φ)
          -∗ wp frame (wpE (defs₀ (F := F)) 𝒱₀ (c : Thread nD τ) none) Set.univ (each f chunks >>= p) Φ) := by
  rw [wp_bind]
  iintro ⟨#HP, HR, HS⟩ Hk
  iapply (wp_wand_r frame (wpE (defs₀ (F := F)) 𝒱₀ (c : Thread nD τ) none) Set.univ)
  isplitl [HR HS]
  · iapply (wp_each c f (ctx m K) R R' S h chunks)
    isplitr; · iexact HP
    isplitl [HR]; · iexact HR
    iexact HS
  iintro %_ ⟨HR', HS⟩
  iapply Hk
  isplitl [HR']; · iexact HR'
  iexact HS

/-! ## The body -/

def bodyPre (c : Dev nD) : sProp 𝕄 :=
  iprop(ghost m K c ∗ credits c ∗ levAts L lv ∗ xWhole m c ∗ (∃ f, recvWhole c f) ∗ (∃ f, localWhole c f)
    ∗ (∃ W, owes (c : Thread nD τ) (O₀ c) W) ∗ ∃ f, outWhole c f)
def bodyPost (c : Dev nD) : sProp 𝕄 :=
  iprop(Φ₁ m c ∗ (∃ W, owes (c : Thread nD τ) 0 W) ∗ outWhole c (OUT m c))

set_option maxHeartbeats 200000 in
/-- The loops, from `bodyPre` to `bodyPost`. -/
theorem sound_loops (c : Dev nD) :
    bodyPre m K c ⊢ wp frame (wpE (defs₀ (F := F)) 𝒱₀ (c : Thread nD τ) none) Set.univ
      (loops xM oM rM lM (arr 0) (arr 1) (arr 2) (arr 3) (arr 4)) (fun _ => bodyPost m c) := by
  unfold loops
  simp only [semSignalWord, semWaitWord, Prog.lift, Prog.bind_op, Prog.bind_ret, wp_deviceId, dev1_eq c, dev2_eq c]
  unfold bodyPre ghost places payToks credits
  rw [bigSep_J]
  iintro ⟨⟨#HR, ⟨HaB, Ha0, Ha1, Ha2, Ha3, Ha4⟩, HtBx, HtBy, Ht0, Ht1, Ht2, Ht3, Ht4⟩, ⟨HcB, Hc1, Hc4⟩, #Hlev, Hx, Hr, Hl, ⟨%W, HO⟩, Ho⟩
  ihave Hr := (recv_some c) $$ Hr
  ihave Hl := (local_some c) $$ Hl
  ihave Ho := (out_some c) $$ Ho
  icases Ho with ⟨Hown, Hoth⟩
  ihave Hx := (Entails.of_eq (x_chunks m c)) $$ Hx
  icases Hx with ⟨⟨Hfar, Hnear⟩, Hrest⟩
  -- the signal across the first axis: the receive buffer handed over
  iapply (Rounds.wp_signal 𝒱₀ ER (Rd m) (c : Thread nD τ) none (dst := (xp c : Thread nD τ)) (κ := K (xp c, none))
      (d := false) (by rw [duties_bar]; exact Finset.mem_univ _) ((amount_bar m (xp c) false).trans (by decide)) () (O₁ c) rfl)
    $$ [HO HtBx Hr]
  · isplitr; · iapply (inv_at m K (xp c, none)); iexact HR
    isplitl [HO]; · iexact HO
    isplitl [HtBx]; · iexact HtBx
    isplitl [Hr]
    · rw [payload_bar, show pay m (xp c) false (some none) = bigSep Finset.univ (fun k : Fin 32 => iprop(∃ f, recvPts (xp (xp c)) k f)) from rfl, xp_xp]
      iexact Hr
    iapply (reached_at m K (xp c, none)); iexact HR
  iintro HO
  -- the signal across the second axis: the rows its neighbour computes handed over
  unfold O₁
  iapply (Rounds.wp_signal 𝒱₀ ER (Rd m) (c : Thread nD τ) none (dst := (yp c : Thread nD τ)) (κ := K (yp c, none))
      (d := true) (by rw [duties_bar]; exact Finset.mem_univ _) ((amount_bar m (yp c) true).trans (by decide)) () (O₂ c) rfl)
    $$ [HO HtBy Hoth]
  · isplitr; · iapply (inv_at m K (yp c, none)); iexact HR
    isplitl [HO]; · iexact HO
    isplitl [HtBy]; · iexact HtBy
    isplitl [Hoth]
    · rw [payload_bar, show pay m (yp c) true (some none) = bigSep Finset.univ (fun k : Fin 32 => iprop(∃ f, outPts (yp (yp c)) (yp c) k f)) from rfl, yp_yp]
      iexact Hoth
    iapply (reached_at m K (yp c, none)); iexact HR
  iintro HO
  -- the wait for both neighbours
  iapply (Rounds.wp_wait_rest_token 𝒱₀ ER (Rd m) (c : Thread nD τ) none (κ := K (c, none))
      (wpE_semWait_eq 𝒱₀ (c : Thread nD τ) none Set.univ) (Set.mem_univ _) () (O := O₂ c) (W := W) (R := 0) (m := 0) (T := ∅)
      (by rw [expect_bar]; decide)) $$ [HcB HO HaB]
  · isplitr; · iapply (inv_at m K (c, none)); iexact HR
    isplitl [HcB]; · iexact HcB
    isplitl [HO]; · iexact HO
    isplitr; · iapply (mayWait 1 c _ (O₂ c) (le_refl 1) (above_O₂ (by decide) c)); iexact Hlev
    iexact HaB
  iintro ⟨HO, HaB, -, Hpay⟩
  ihave Hp := (Entails.of_eq (rest_bar m c)) $$ Hpay
  icases Hp with ⟨Hr, Hoth⟩
  imod (Rounds.cell_close ER (Rd m) (Set.mem_univ (K (c, none))) (fun h => h) (R := 0 + 1) (duties_later m (barCell c))) $$ [HaB] with HzB
  · isplitr; · iapply (inv_at m K (c, none)); iexact HR
    iexact HaB
  -- the first loop
  iapply (wp_loop m K c _ (R₁ m c) (R₁' c) (S₁ c) (start_round m K c)) $$ [Hfar Hnear Hr Hl Ht0 Ht1 Ht2 HO]
  · unfold ctx S₁
    rw [over_R₁]
    isplitr
    · isplitr; · iexact HR
      iexact Hlev
    isplitr [HO]
    · isplitl [Hfar]; · iexact Hfar
      isplitl [Hnear]; · iexact Hnear
      isplitl [Hr]; · iexact Hr
      isplitl [Hl]; · iexact Hl
      isplitl [Ht0]; · iexact Ht0
      isplitl [Ht1]; · iexact Ht1
      iexact Ht2
    iexists _; iexact HO
  rw [over_R₁']
  iintro ⟨⟨Hc0, Hc2⟩, HO⟩
  -- the second loop
  iapply (wp_loop m K c _ (R₂ c) (R₂' m c) (S₂ c) (add_round m K c)) $$ [Hc2 Hc1 Ha2 Ha1 Hown Hoth Ht3 Ht4 HO]
  · unfold ctx S₁ S₂
    rw [over_R₂]
    isplitr
    · isplitr; · iexact HR
      iexact Hlev
    isplitr [HO]
    · isplitl [Hc2]; · iexact Hc2
      isplitl [Hc1]; · iexact Hc1
      isplitl [Ha2]; · iexact Ha2
      isplitl [Ha1]; · iexact Ha1
      isplitl [Hown]; · iexact Hown
      isplitl [Hoth]; · iexact Hoth
      isplitl [Ht3]; · iexact Ht3
      iexact Ht4
    rw [oweX, add_zero]
    iexact HO
  rw [over_R₂']
  iintro ⟨⟨Hz2, Hz1, Hr, Hl, Hnear, Hc3⟩, HO⟩
  -- the third loop
  iapply (wp_wand_r frame (wpE (defs₀ (F := F)) 𝒱₀ (c : Thread nD τ) none) Set.univ)
  isplitl [Hc0 Hc3 Hc4 Ha0 Ha3 Ha4 HO]
  · iapply (wp_each c _ (ctx m K) (R₃ c) (R₃' m c) (S₃ c) (wait_round m K c) chunks)
    unfold ctx S₂ S₃
    rw [over_R₃]
    isplitr
    · isplitr; · iexact HR
      iexact Hlev
    isplitr [HO]
    · isplitl [Hc0]; · iexact Hc0
      isplitl [Hc3]; · iexact Hc3
      isplitl [Hc4]; · iexact Hc4
      isplitl [Ha0]; · iexact Ha0
      isplitl [Ha3]; · iexact Ha3
      iexact Ha4
    rw [oweY]
    iexact HO
  rw [over_R₃']
  iintro %_ ⟨⟨Hz0, Hz3, Hz4, Hfar, Hown, Hoth⟩, HO⟩
  -- the buffers whole again
  unfold bodyPost Φ₁ S₃
  rw [bigSep_J, x_chunks, out_chunks]
  isplitl [Hfar Hnear Hrest Hr Hl HzB Hz0 Hz1 Hz2 Hz3 Hz4]
  · isplitl [Hfar Hnear Hrest]
    · isplitl [Hfar Hnear]
      · isplitl [Hfar]; · iexact Hfar
        iexact Hnear
      iexact Hrest
    isplitl [Hr]; · iexists _; rw [recv_chunks]; iexact Hr
    isplitl [Hl]; · iexists _; rw [local_chunks]; iexact Hl
    isplitl [HzB]; · iexact HzB
    isplitl [Hz0]; · iexact Hz0
    isplitl [Hz1]; · iexact Hz1
    isplitl [Hz2]; · iexact Hz2
    isplitl [Hz3]; · iexact Hz3
    iexact Hz4
  isplitl [HO]; · iexact HO
  isplitl [Hown]; · iexact Hown
  iexact Hoth

end Cert.KernelIdeal.Exchange

end
-- ==== Proof.KernelIdeal.Ghost.lean ====
/-
# The tokens and the credit at launch

The tokens of every cell's duties are minted together and dealt each to the device that pays; every cell's invariant is
allocated; and the credit the launch deals each device is what its two neighbours owe it.
-/
module

public import proofs.«01_k».proof.Proof.KernelIdeal.Body

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The tokens -/

/-- Every cell of every device. -/
def theCells : Finset (GSem nD τ sig) := Finset.univ.map ⟨kcell, kcell_injective⟩

/-- The cell of a duty: the two of the barrier, then one for each transfer cell; -/
def dutyCell : Bool ⊕ J → Option J
  | .inl _ => none
  | .inr j => some j
/-- and its name. -/
def dutyName : Bool ⊕ J → Bool
  | .inl b => b
  | .inr _ => false
def tokOf (p : Dev nD × (Bool ⊕ J)) : GSem nD τ sig × ℕ × Bool := (kcell (p.1, dutyCell p.2), 0, dutyName p.2)
/-- Different duties have different tokens. -/
theorem tokOf_injective : Function.Injective tokOf := by
  rintro ⟨c, j⟩ ⟨c', j'⟩ h
  have h1 := kcell_injective (congrArg Prod.fst h)
  have h2 : dutyName j = dutyName j' := congrArg (fun x : GSem nD τ sig × ℕ × Bool => x.2.2) h
  have h3 : c = c' := congrArg Prod.fst h1
  have h4 : dutyCell j = dutyCell j' := congrArg Prod.snd h1
  have h5 : j = j' := by
    rcases j with b | j <;> rcases j' with b' | j'
    · exact congrArg Sum.inl h2
    · cases h4
    · cases h4
    · exact congrArg Sum.inr (Option.some.inj h4)
  rw [h3, h5]
/-- Every duty's token. -/
def theToks : Finset (GSem nD τ sig × ℕ × Bool) := Finset.univ.map ⟨tokOf, tokOf_injective⟩

def u₀ : UU := (initOf (Pipeline.cells cfgs cellOf_inj) (Pipeline.launchToks cfgs cellOf_inj), initOf theCells theToks)

/-- The tokens of the duties of device `c`'s own cells. -/
def toks (c : Dev nD) : sProp 𝕄 :=
  iprop((dutyTok ER (barCell c) 0 false ∗ dutyTok ER (barCell c) 0 true)
    ∗ bigSep Finset.univ (fun k : Fin 32 => dutyTok ER (cell c 0 k) 0 false) ∗ bigSep Finset.univ (fun k : Fin 32 => dutyTok ER (cell c 1 k) 0 false)
    ∗ bigSep Finset.univ (fun k : Fin 32 => dutyTok ER (cell c 2 k) 0 false) ∗ bigSep Finset.univ (fun k : Fin 32 => dutyTok ER (cell c 3 k) 0 false)
    ∗ bigSep Finset.univ (fun k : Fin 32 => dutyTok ER (cell c 4 k) 0 false))

/-- What the launch deals device `c`: its cells' states, its places, its cells' tokens. -/
def G (c : Dev nD) : sProp 𝕄 :=
  iprop((bigSep Finset.univ fun p : Option J => roundState ER (Rd m) (kcell (c, p)) 0)
    ∗ (bigSep Finset.univ fun p : Option J => iprop(atPos ER (kcell (c, p)) 0 ∅ 0 ∗ reached ER (kcell (c, p)) 0)) ∗ toks c)
/-- What it has once every invariant is allocated. -/
def G' (c : Dev nD) : sProp 𝕄 := iprop(∃ K, ghost m K c)

omit [FloatOps F] in
/-- Over a device's cells: its barrier's, then its transfers'. -/
theorem bigSep_opt (Φ : Option J → sProp 𝕄) : bigSep Finset.univ Φ = iprop(Φ none ∗ bigSep Finset.univ fun j : J => Φ (some j)) := by
  rw [bigSep_univ_equiv ((Equiv.sumComm PUnit.{1} J).trans (Equiv.optionEquivSumPUnit.{0} J).symm) Φ, bigSep_univ_sum,
    bigSep_univ_eq_bigSepL [PUnit.unit] (by decide) (by decide), bigSepL_singleton]
  rfl

omit [FloatOps F] in
theorem deal_cells (Φ : GSem nD τ sig → sProp 𝕄) :
    bigSep theCells Φ = bigSep Finset.univ fun c : Dev nD => bigSep Finset.univ fun p : Option J => Φ (kcell (c, p)) := by
  unfold theCells; rw [bigSep_map, bigSep_univ_prod]; rfl
omit [FloatOps F] in
theorem deal_toks : bigSep theToks (fun x => (dutyTok ER x.1 x.2.1 x.2.2 : sProp 𝕄)) = bigSep Finset.univ fun c : Dev nD => toks c := by
  unfold theToks; rw [bigSep_map, bigSep_univ_prod]
  exact bigSep_congr fun c _ => by
    unfold toks
    rw [bigSep_univ_sum, bigSep_bool, bigSep_J]
    rfl

/-- The protocol's part of the launch, dealt to the devices. -/
theorem fund_cells : BI.own (ER (initOf theCells theToks)) ⊢ (|==> bigSep Finset.univ (G m) : sProp 𝕄) := by
  iintro HX
  imod (Rounds.fund ER (Rd m) theCells theToks) $$ HX with ⟨Hst, Hr, Hat, Htok⟩
  imodintro
  ihave Hst := (Entails.of_eq (deal_cells fun g => roundState ER (Rd m) g 0)) $$ Hst
  ihave Hat := (Entails.of_eq (deal_cells fun g => atPos ER g 0 ∅ 0)) $$ Hat
  ihave Hr := (Entails.of_eq (deal_cells fun g => reached ER g 0)) $$ Hr
  ihave Htok := (Entails.of_eq deal_toks) $$ Htok
  unfold G; simp only [bigSep_sep']
  isplitl [Hst]; · iexact Hst
  isplitl [Hat Hr]
  · isplitl [Hat] <;> iassumption
  iexact Htok

omit [FloatOps F] in
/-- The tokens passed to who pays: across the first axis, across the second, or kept. -/
theorem toks_around : (bigSep Finset.univ fun c : Dev nD => (toks c : sProp 𝕄)) ⊢ bigSep Finset.univ fun c : Dev nD => payToks c := by
  have e1 : (bigSep Finset.univ fun c : Dev nD => (dutyTok ER (barCell c) 0 false : sProp 𝕄))
    = bigSep Finset.univ fun c : Dev nD => dutyTok ER (barCell (xp c)) 0 false := bigSep_univ_equiv xE _
  have e2 : (bigSep Finset.univ fun c : Dev nD => (dutyTok ER (barCell c) 0 true : sProp 𝕄))
    = bigSep Finset.univ fun c : Dev nD => dutyTok ER (barCell (yp c)) 0 true := bigSep_univ_equiv yE _
  have e3 : (bigSep Finset.univ fun c : Dev nD => (bigSep Finset.univ fun k : Fin 32 => dutyTok ER (cell c 1 k) 0 false : sProp 𝕄))
    = bigSep Finset.univ fun c : Dev nD => bigSep Finset.univ fun k : Fin 32 => dutyTok ER (cell (xp c) 1 k) 0 false := bigSep_univ_equiv xE _
  have e4 : (bigSep Finset.univ fun c : Dev nD => (bigSep Finset.univ fun k : Fin 32 => dutyTok ER (cell c 4 k) 0 false : sProp 𝕄))
    = bigSep Finset.univ fun c : Dev nD => bigSep Finset.univ fun k : Fin 32 => dutyTok ER (cell (yp c) 4 k) 0 false := bigSep_univ_equiv yE _
  unfold toks payToks
  simp only [bigSep_sep']
  rw [e1, e2, e3, e4]
  iintro ⟨⟨H1, H2⟩, H⟩
  isplitl [H1]; · iexact H1
  isplitl [H2]; · iexact H2
  iexact H

/-! ## The invariants -/

omit [FloatOps F] in
/-- The transfer cells' semaphores and the barrier's are the cells' counters. -/
theorem sems0_eq (c : Dev nD) (hU : (unscopedSems0 c : sProp 𝕄) = semVal (barCell c) 0) :
    iprop(Pipeline.ownSems0 (Ix := Unit) (Name := ℕ) (U := UU) (Lvl := ℕ) (Val := Elt F) (τ := τ) osem c ∗ unscopedSems0 c)
      ⊢ (bigSep Finset.univ fun p : Option J => semVal (kcell (c, p)) 0 : sProp 𝕄) := by
  rw [bigSep_opt, hU]
  unfold Pipeline.ownSems0
  iintro ⟨H, HB⟩
  isplitl [HB]; · iexact HB
  iexact H

omit [FloatOps F] in
/-- The barrier semaphore is the one that outlives the call. -/
theorem unscopedSems0_eq (c : Dev nD) : (unscopedSems0 c : sProp 𝕄) = semVal (barCell c) 0 := by
  unfold unscopedSems0; rw [bigSep_eq_bigSepL_of_eq [SemLoc.reg barS] (by decide) (by decide +kernel)]; rfl

/-- A device's semaphores at zero become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun p : Option J => iprop(∃ κ : ℕ, cellInv ER (Rd m) κ (kcell (c, p))))
          ∗ (bigSep Finset.univ fun p : Option J => iprop(atPos ER (kcell (c, p)) 0 ∅ 0 ∗ reached ER (kcell (c, p)) 0)) ∗ toks c) := by
  unfold G
  iintro ⟨Hos, Hus, Hst, Hat, Htok⟩
  ihave Hv := (sems0_eq (F := F) c (unscopedSems0_eq c)) $$ [Hos Hus]
  · isplitl [Hos] <;> iassumption
  imod (show iprop((bigSep Finset.univ fun p : Option J => semVal (kcell (c, p)) 0) ∗ bigSep Finset.univ fun p : Option J => roundState ER (Rd m) (kcell (c, p)) 0)
      ⊢ (|={Set.univ}=> bigSep Finset.univ fun p : Option J => iprop(∃ κ : ℕ, cellInv ER (Rd m) κ (kcell (c, p))) : sProp 𝕄) from by
        rw [← bigSep_sep']
        exact (bigSep_mono fun p _ => (Rounds.body_intro ER (Rd m) (kcell (c, p))).trans inv_alloc).trans (bigSep_fupd _ _)) $$ [Hv Hst] with Hinv
  · isplitl [Hv] <;> iassumption
  imodintro
  isplitl [Hinv]; · iexact Hinv
  isplitl [Hat]; · iexact Hat
  iexact Htok

/-- The records, a device's places and the tokens it pays with are what it starts with. -/
theorem ghost_intro (K : Dev nD × Option J → ℕ) (c : Dev nD) : iprop(records m K ∗ (places c ∗ payToks c)) ⊢ G' m c := by
  unfold G' ghost
  iintro ⟨#HR, H⟩
  iexists K
  isplitr; · iexact HR
  iexact H

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants' names collected and the tokens passed round, device by device. -/
theorem regroup :
    (bigSep Finset.univ fun c : Dev nD => iprop((bigSep Finset.univ fun p : Option J => iprop(∃ κ : ℕ, cellInv ER (Rd m) κ (kcell (c, p))))
          ∗ (bigSep Finset.univ fun p : Option J => iprop(atPos ER (kcell (c, p)) 0 ∅ 0 ∗ reached ER (kcell (c, p)) 0)) ∗ toks c) : sProp 𝕄)
      ⊢ bigSep Finset.univ (G' m) := by
  rw [bigSep_sep', bigSep_sep', ← bigSep_univ_prod (fun q : Dev nD × Option J => iprop(∃ κ : ℕ, cellInv ER (Rd m) κ (kcell q))),
    bigSep_congr (s := Finset.univ) (fun (c : Dev nD) _ => bigSep_sep' Finset.univ (fun p : Option J => (atPos ER (kcell (c, p)) 0 ∅ 0 : sProp 𝕄)) (fun p => reached ER (kcell (c, p)) 0)),
    bigSep_sep', ← bigSep_univ_prod (fun q : Dev nD × Option J => (reached ER (kcell q) 0 : sProp 𝕄))]
  iintro ⟨HI, ⟨Hat, #HR⟩, Htok⟩
  ihave HK := (BI.bigSep_exists_pi Finset.univ (fun (q : Dev nD × Option J) (κ : ℕ) => (cellInv ER (Rd m) κ (kcell q) : sProp 𝕄))) $$ HI
  icases HK with ⟨%K, #HI⟩
  ihave Htk := (toks_around (F := F)) $$ Htok
  iapply (bigSep_beside (R := records m K) fun c _ => ghost_intro m K c)
  isplitr
  · unfold records; isplitl; · iexact HI
    iexact HR
  · have e : (bigSep Finset.univ fun c : Dev nD => iprop(places c ∗ payToks c) : sProp 𝕄)
        = iprop((bigSep Finset.univ fun c : Dev nD => bigSep Finset.univ fun p : Option J => atPos ER (kcell (c, p)) 0 ∅ 0) ∗ bigSep Finset.univ payToks) := by
      rw [bigSep_sep']
      exact congrArg (fun A => iprop(A ∗ bigSep Finset.univ payToks)) (bigSep_congr fun c _ => (bigSep_opt fun p => atPos ER (kcell (c, p)) 0 ∅ 0).symm)
    rw [e]
    isplitl [Hat]; · iexact Hat
    iexact Htk

/-- Every device's semaphores turned into the cells' invariants, all at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- A debt at one cell counts at that cell only. -/
theorem tally_at (p p' : Dev nD × Option J) (q : ℕ) : (tallyAt (kcell p) () q : CellTallies nD τ sig Unit) (kcell p') () = if p' = p then q else 0 := by
  rw [tallyAt_apply]
  by_cases h : p' = p
  · rw [if_pos h, if_pos ⟨congrArg kcell h, rfl⟩]
  · rw [if_neg h, if_neg fun e => h (kcell_injective e.1)]

/-- One chunk's credit owed at the cell `g k`, for each `k` of a list. -/
def due (g : Fin 32 → Dev nD × Option J) : List (Fin 32) → CellTallies nD τ sig Unit
  | [] => 0
  | k :: ks => due g ks + tallyAt (kcell (g k)) () N
/-- The debts along the first axis, as such a list; -/
theorem oweX_due (c : Dev nD) : ∀ ks, oweX c ks = due (fun k => (xp c, some (1, k))) ks
  | [] => rfl
  | k :: ks => by rw [oweX, due, oweX_due c ks]
/-- and those along the second. -/
theorem oweY_due (c : Dev nD) : ∀ ks, oweY c ks = due (fun k => (yp c, some (4, k))) ks
  | [] => rfl
  | k :: ks => by rw [oweY, due, oweY_due c ks]

/-- Nothing is owed at a cell that the list does not name; -/
theorem due_off (g : Fin 32 → Dev nD × Option J) (p : Dev nD × Option J) (h : ∀ k, p ≠ g k) : ∀ ks, due g ks (kcell p) () = 0
  | [] => rfl
  | k :: ks => by
    rw [due, Pi.add_apply, Finsupp.add_apply, due_off g p h ks, tally_at, if_neg (h k)]
/-- one chunk's credit is at a cell that it names. -/
theorem due_at (g : Fin 32 → Dev nD × Option J) (hg : Function.Injective g) (k : Fin 32) :
    ∀ ks : List (Fin 32), ks.Nodup → due g ks (kcell (g k)) () = if k ∈ ks then N else 0
  | [], _ => rfl
  | k' :: ks, h => by
    obtain ⟨h1, h2⟩ := List.nodup_cons.mp h
    rw [due, Pi.add_apply, Finsupp.add_apply, due_at g hg k ks h2, tally_at]
    by_cases e : k = k'
    · subst e; rw [if_neg h1, if_pos rfl, if_pos List.mem_cons_self, Nat.zero_add]
    · rw [if_neg fun e' => e (hg e'), Nat.add_zero]
      by_cases hk : k ∈ ks
      · rw [if_pos hk, if_pos (List.mem_cons_of_mem _ hk)]
      · rw [if_neg hk, if_neg fun h => (List.mem_cons.mp h).elim e hk]

/-- The neighbour across the first axis, from either end; -/
theorem cross_x {a b : Dev nD} (h : a = xp b) : xp a = b := by rw [h, xp_xp]
/-- and across the second. -/
theorem cross_y {a b : Dev nD} (h : a = yp b) : yp a = b := by rw [h, yp_yp]

/-- What device `d` owes at launch, part by part. -/
theorem owed_parts (d : Dev nD) (p : Dev nD × Option J) : O₀ d (kcell p) () = due (fun k => (yp d, some (4, k))) chunks (kcell p) ()
    + due (fun k => (xp d, some (1, k))) chunks (kcell p) () + (if p = (yp d, none) then 1 else 0) + (if p = (xp d, none) then 1 else 0) := by
  unfold O₀ O₁ O₂
  rw [Pi.add_apply, Finsupp.add_apply, Pi.add_apply, Finsupp.add_apply, Pi.add_apply, Finsupp.add_apply, oweX_due, oweY_due]
  rw [show barCell (yp d) = kcell (yp d, none) from rfl, show barCell (xp d) = kcell (xp d, none) from rfl, tally_at, tally_at]

/-- Each neighbour owes a barrier one unit. -/
theorem owed_bar (d c : Dev nD) : O₀ d (kcell (c, none)) () = (if d = yp c then 1 else 0) + (if d = xp c then 1 else 0) := by
  rw [owed_parts, due_off _ _ fun k h => (by cases congrArg Prod.snd h), due_off _ _ fun k h => (by cases congrArg Prod.snd h), Nat.zero_add]
  congr 1
  · by_cases h : d = yp c
    · rw [if_pos h, if_pos (by rw [cross_y h])]
    · rw [if_neg h, if_neg fun e => h (cross_y (congrArg Prod.fst e)).symm]
  · by_cases h : d = xp c
    · rw [if_pos h, if_pos (by rw [cross_x h])]
    · rw [if_neg h, if_neg fun e => h (cross_x (congrArg Prod.fst e)).symm]

/-- The neighbour across the first axis owes a receive cell its chunk. -/
theorem owed_x (d c : Dev nD) (k : Fin 32) : O₀ d (kcell (c, some (1, k))) () = if d = xp c then N else 0 := by
  rw [owed_parts, if_neg fun h => (by cases congrArg Prod.snd h), if_neg fun h => (by cases congrArg Prod.snd h), Nat.add_zero,
    due_off _ _ fun k' h => absurd (congrArg Prod.fst (Option.some.inj (congrArg Prod.snd h))) (show (1 : Fin 5) ≠ 4 by decide), Nat.zero_add]
  by_cases h : d = xp c
  · rw [if_pos h, cross_x h]
    refine (due_at (fun k => (c, some (1, k))) (fun a b e => ?_) k chunks (by decide)).trans (if_pos (by revert k; decide))
    exact congrArg Prod.snd (Option.some.inj (congrArg Prod.snd e))
  · rw [if_neg h]
    exact due_off _ _ (fun k' e => h (cross_x (congrArg Prod.fst e)).symm) _

/-- The neighbour across the second axis owes a receive cell its chunk. -/
theorem owed_y (d c : Dev nD) (k : Fin 32) : O₀ d (kcell (c, some (4, k))) () = if d = yp c then N else 0 := by
  rw [owed_parts, if_neg fun h => (by cases congrArg Prod.snd h), if_neg fun h => (by cases congrArg Prod.snd h), Nat.add_zero,
    due_off (fun k => (xp d, some (1, k))) _ fun k' h => absurd (congrArg Prod.fst (Option.some.inj (congrArg Prod.snd h))) (show (4 : Fin 5) ≠ 1 by decide), Nat.add_zero]
  by_cases h : d = yp c
  · rw [if_pos h, cross_y h]
    refine (due_at (fun k => (c, some (4, k))) (fun a b e => ?_) k chunks (by decide)).trans (if_pos (by revert k; decide))
    exact congrArg Prod.snd (Option.some.inj (congrArg Prod.snd e))
  · rw [if_neg h]
    exact due_off _ _ (fun k' e => h (cross_y (congrArg Prod.fst e)).symm) _

/-- The credit dealt at a cell is what the devices together owe it. -/
theorem launch_at (p : Dev nD × Option J) (q : ℕ) (h : ∑ d : Dev nD, O₀ d (kcell p) () = q) :
    tallyOn (kcell p) (launchCredit (Pipeline.owing O₀) 0 (kcell p)) = (tallyAt (kcell p) () q : CellTallies nD τ sig Unit) := by
  unfold tallyAt; refine congrArg _ (Finsupp.ext fun u => ?_); cases u
  rw [Pipeline.launchCredit_owing, Finsupp.single_eq_same, h]

/-- Two units at the barrier; -/
theorem launch_bar (c : Dev nD) :
    tallyOn (kcell (c, none)) (launchCredit (Pipeline.owing O₀) 0 (kcell (c, none))) = (tallyAt (barCell c) () 2 : CellTallies nD τ sig Unit) :=
  launch_at (c, none) 2 (by
    rw [Finset.sum_congr rfl fun d _ => owed_bar d c, Finset.sum_add_distrib,
      Finset.sum_ite_eq' Finset.univ (yp c) fun _ => 1, Finset.sum_ite_eq' Finset.univ (xp c) fun _ => 1, if_pos (Finset.mem_univ _), if_pos (Finset.mem_univ _)])
/-- a chunk at each receive cell of the first axis -/
theorem launch_x (c : Dev nD) (k : Fin 32) :
    tallyOn (kcell (c, some (1, k))) (launchCredit (Pipeline.owing O₀) 0 (kcell (c, some (1, k)))) = (tallyAt (cell c 1 k) () N : CellTallies nD τ sig Unit) :=
  launch_at (c, some (1, k)) N (by
    rw [Finset.sum_congr rfl fun d _ => owed_x d c k, Finset.sum_ite_eq' Finset.univ (xp c) fun _ => N, if_pos (Finset.mem_univ _)])
/-- and of the second. -/
theorem launch_y (c : Dev nD) (k : Fin 32) :
    tallyOn (kcell (c, some (4, k))) (launchCredit (Pipeline.owing O₀) 0 (kcell (c, some (4, k)))) = (tallyAt (cell c 4 k) () N : CellTallies nD τ sig Unit) :=
  launch_at (c, some (4, k)) N (by
    rw [Finset.sum_congr rfl fun d _ => owed_y d c k, Finset.sum_ite_eq' Finset.univ (yp c) fun _ => N, if_pos (Finset.mem_univ _)])

omit [FloatOps F] in
/-- The credit dealt to device `c`: two units at its barrier, one chunk's at each of its receive cells. -/
theorem creds (c : Dev nD) : (Pipeline.launchCred O₀ c : sProp 𝕄) ⊢ credits c := by
  have h : (Pipeline.launchCred O₀ c : sProp 𝕄)
      ⊢ bigSep Finset.univ fun p : Option J => cred (tallyOn (kcell (c, p)) (launchCredit (Pipeline.owing O₀) 0 (kcell (c, p)))) := by
    unfold Pipeline.launchCred
    refine Entails.trans (bigSep_subset (Finset.subset_univ (Finset.univ.map ⟨csem, csem_injective⟩))) (Entails.of_eq ?_)
    rw [bigSep_map]
    exact bigSep_congr fun p _ => rfl
  refine BIBase.Entails.trans h ?_
  rw [bigSep_opt, bigSep_J, launch_bar, funext (fun k => congrArg cred (launch_x c k)), funext (fun k => congrArg cred (launch_y c k))]
  unfold credits
  iintro ⟨HB, -, H1, -, -, H4⟩
  isplitl [HB]; · iexact HB
  isplitl [H1]; · iexact H1
  iexact H4

end Cert.KernelIdeal.Exchange

end
-- ==== Proof.KernelIdeal.Run.lean ====
/-
# The run

The body as the region's proof data, the launch, and what every run of `main` ends in: each device's result at its
contents, its argument unchanged, every semaphore at zero.
-/
module

public import proofs.«01_k».proof.Proof.KernelIdeal.Ghost
public import proofs.«01_k».proof.Proof.Gen.KernelIdeal.Points
public import Idealize.ShloMosaic.Lib.Pipeline.CollectiveSegs
public import Idealize.ShloMosaic.Lib.Pipeline.ValueKit.Geometry

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

/-- The memory a run starts from. -/
def s₁ : MemSt nD τ sig (Elt F) := ⟨m, fun _ => 0, ρ⟩

/-- The region's proof data: the result's staging buffer ends at `OUT`. -/
def dats (_ : Fin 1) (c : Dev nD) : Dat τ (Elt F) Unit ℕ UU ℕ cfg0 c where
  A w := (s₁ m ρ).mem ((cfg0.win w).arr.view.loc (c : Thread nD τ))
  after w _ := match w with
    | ⟨0, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_at (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A buffer at given contents. -/
abbrev held (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- What the region gives the body, -/
def regionPre (c : Dev nD) : sProp 𝕄 :=
  iprop(Φ₀ m c ∗ (dats m ρ 0 c).owesAt () t0_0.castSucc ∗ ∃ d, held c cc0_stg0_0 ((dats m ρ 0 c).before (0 : Fin 1) t0_0 d))
/-- and what it takes back. -/
def regionPost (c : Dev nD) : sProp 𝕄 :=
  iprop(Φ₁ m c ∗ (dats m ρ 0 c).owesAt () t0_0.succ ∗ held c cc0_stg0_0 (OUT m c))

/-- The body's end is the region's. -/
theorem post_intro (c : Dev nD) : bodyPost m c ⊢ regionPost m ρ c := by
  unfold bodyPost regionPost Dat.owesAt Pipeline.owesWithin
  rw [show (dats m ρ 0 c).owed t0_0.succ = 0 from rfl]
  iintro ⟨HΦ, ⟨%W, HO⟩, Hout⟩
  isplitl [HΦ]; · iexact HΦ
  isplitl [HO]
  · iexists W
    isplitr; · ipureintro; exact fun _ _ => Or.inl trivial
    iexact HO
  iexists (OUT m c); isplitr; · (ipureintro; rfl)
  unfold outWhole; iexact Hout

/-- What the region gives is what the body needs. -/
theorem pre_elim (c : Dev nD) : regionPre m ρ c ⊢ iprop(∃ K, bodyPre m K c) := by
  unfold regionPre Dat.owesAt Pipeline.owesWithin Φ₀ start
  rw [show (dats m ρ 0 c).owed t0_0.castSucc = O₀ c from rfl]
  iintro ⟨⟨⟨⟨%K, Hg⟩, Hc, Hlev, Hx⟩, Hr, Hl⟩, ⟨%W, %hW, HO⟩, ⟨%d, %f, %hf, Hout⟩⟩
  iexists K
  unfold bodyPre
  isplitl [Hg]; · iexact Hg
  isplitl [Hc]; · iexact Hc
  isplitl [Hlev]; · iexact Hlev
  isplitl [Hx]; · iexact Hx
  isplitl [Hr]; · iexact Hr
  isplitl [Hl]; · iexact Hl
  isplitl [HO]; · iexists W; iexact HO
  iexists f; unfold outWhole; iexact Hout

set_option maxRecDepth 100000 in
/-- The body's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_at]
  show regionPre m ρ c ⊢ wp frame (wpE (defs₀ (F := F)) 𝒱₀ c none) Set.univ
    (cc0_body xM (Memref.isWhole_whole _) oM (Memref.isWhole_whole _) rM (Memref.isWhole_whole _) lM (Memref.isWhole_whole _)
      (arr 0) (arr 1) (arr 2) (arr 3) (arr 4)) (fun _ => regionPost m ρ c)
  rw [body_eq_loops]
  iintro H
  ihave H := (pre_elim m ρ c) $$ H
  icases H with ⟨%K, H⟩
  ihave H := (sound_loops m K c) $$ H
  iapply (wp_wand_r frame (wpE (defs₀ (F := F)) 𝒱₀ (c : Thread nD τ) none) Set.univ)
  isplitl [H]; · iexact H
  iintro %_ H
  iapply (post_intro m ρ c) $$ H

/-! ## The launch -/

/-- The transfer semaphores are the call's own, all different, and none is the staging one. -/
theorem ownSemFacts : Pipeline.OwnSemFacts cfg0.spec osem where
  isScoped k := by revert k; decide +kernel
  inj a b h := Option.some.inj (csem_injective (a₁ := some a) (a₂ := some b) h)
  disj k w s := by revert k w s; decide +kernel

/-- The window is held whole. -/
theorem share_eq (c : Dev nD) (w : Fin cfg0.W) : (dats m ρ 0 c).share w = fullShare := by unfold Dat.share; split <;> rfl

/-- The launch's parts are what a device starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  rw [show (Pipeline.unscopedRest cfg0.spec c (fun b => m ((c : Thread nD τ).loc b)) : sProp 𝕄) = xWhole m c from unscopedRest0_eq c _]
  iintro ⟨Hx, Hlev, Hcr, -, HG⟩
  ihave Hc := (creds (F := F) c) $$ Hcr
  imodintro
  unfold start G'
  isplitl
  · isplitl [HG]; · iexact HG
    isplitl [Hc]; · iexact Hc
    isplitl [Hlev]; · iexact Hlev
    iexact Hx
  · iempintro

/-- With its scratch buffers that is the body's start. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ recvWhole localWhole
  iintro ⟨Hs, -, Hr, Hl⟩
  isplitl [Hs]; · iexact Hs
  isplitl [Hr]; · iexact Hr
  iexact Hl

/-- What a device keeps past the region: its barrier counter at zero and its argument. -/
def kept (c : Dev nD) : sProp 𝕄 := iprop(unscopedSems0 c ∗ xWhole m c)

/-- The body's end returns the semaphores and the scratch buffers. -/
theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq]
  unfold Φ₁ kept recvWhole localWhole Pipeline.ownSems0
  rw [unscopedSems0_eq]
  iintro ⟨Hx, Hr, Hl, HB, Hs⟩
  isplitl [HB Hx]
  · isplitl [HB] <;> iassumption
  isplitl [Hs]; · iexact Hs
  isplitl [Hr]; · iexact Hr
  iexact Hl

/-- The staging semaphore can be waited for at any time. -/
theorem waits (c : Dev nD) : (levAts L lv : sProp 𝕄) ⊢ Pipeline.cellsWaits cfgs (dats m ρ) () 0 c :=
  Pipeline.cellsWaits_intro cfgs (dats m ρ) () 0 c fun w s t =>
    mayWait 0 c _ _ (by fin_cases w <;> fin_cases s <;> decide +kernel) (by
      rcases t with ⟨_ | _, ht⟩
      · exact above_O₀ c
      · exact above_zero 0)

/-- Reading the end: the barrier counter is zero and the argument unchanged. -/
theorem kept_read (c : Dev nD) (s' : Phys nD τ sig (Elt F)) :
    iprop(kept m c ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_arg0) = m ((c : Thread nD τ).loc main_arg0)⌝ ∗ SI s' : sProp 𝕄) := by
  unfold kept xWhole
  iintro ⟨⟨Hu, Hx⟩, -, HSI⟩
  ihave %hx := SI_pointsTo_agree $$ [HSI Hx]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => hx i (Finset.mem_univ _)⟩
  · iexact HSI

/-! ## The run -/

/-- The result array ends at what the staging buffer holds after the body. -/
theorem final_out (c : Dev nD) : (dats m ρ 0 c).arrAt (0 : Fin 1) cfg0.N = OUT m c :=
  Dat.arrAt_eq_of_after_last (dats m ρ 0 c) (0 : Fin 1) t0_0 (by decide +kernel) (OUT m c) fun j => rfl

/-- What a run ends in: every device's result at `OUT`, its argument as it was. -/
def Final (s : MemSt nD τ sig (Elt F)) : Prop :=
  ∀ c : Dev nD, s.mem ((c : Thread nD τ).loc main_v1) = OUT m c ∧ s.mem ((c : Thread nD τ).loc main_arg0) = m ((c : Thread nD τ).loc main_arg0)

set_option maxRecDepth 100000 in
/-- From any memory with zero counters every fair run of `main` on the four devices ends, with every device's result at
    `OUT`, its argument unchanged and every semaphore at zero. -/
theorem run_main : θ_run defs (onTc (τ := τ) (main (F := F))) (s₁ m ρ) (fun r => Final m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => kept_read m c s')
    (hQ := fun _ h hs => ⟨fun c => ⟨((h c).1 (0 : Fin 1)).trans (final_out m ρ c), (h c).2.2.2⟩, sem_eq_zero hs fun c => (h c).2.2.1⟩)

end Cert.KernelIdeal.Exchange

end
-- ==== Proof.Value.lean ====
/-
# The value

Over the extended reals each device's result is its block of the reference's sum: an element is the sum of the
argument's two blocks along the first mesh axis, whichever of the two comes first.
-/
module

public import proofs.«01_k».proof.Defs
public import proofs.«01_k».proof.Proof.KernelIdeal.Run
public import proofs.«01_k».proof.Proof.Gen.ReferenceIdeal.Run
public import Idealize.ShloMosaic.Lib.IdealHost
public import Idealize.ShloMosaic.Lib.Pointwise.Reduce

@[expose] public section

noncomputable section

namespace Cert.Value

open Cert.KernelIdeal Cert.KernelIdeal.Exchange
open Idealize.ShloMosaic Idealize.ShloMosaic.TcCoe Idealize.SL.Sem

/-- The whole argument. -/
abbrev Whole : Type := Cert.ReferenceIdeal.S2x4096x2048.Idx → EReal

/-- The reference's sum of the whole argument. -/
def total (y : Whole) : Cert.ReferenceIdeal.S4096x2048.Idx → EReal :=
  Host.reduceAdd (F := Ideal) (φ := .f32) y (constant (F := Ideal) Cert.ReferenceIdeal.S_ .f32 0x00000000#32)
    Cert.ReferenceIdeal.Gen.reducesTo_S2x4096x2048_S4096x2048_d0 Cert.ReferenceIdeal.Gen.h_S_

/-- It adds the argument's two planes. -/
theorem total_apply (y : Whole) (j : Cert.ReferenceIdeal.S4096x2048.Idx) :
    total y j = y (ix3 (0 : Fin 2) (j 0) (j 1)) + y (ix3 (1 : Fin 2) (j 0) (j 1)) := by
  unfold total
  rw [Idealize.ShloMosaic.ValueIdx.hostReduceAdd_apply, Ideal.hostReduceAdd_r3_a0, Fin.sum_univ_two]
  refine (congrArg (· + _) (Ideal.ofBits_zero_f32)).trans ?_
  rw [zero_add]
  rfl

/-- The first mesh coordinate of device `c`. -/
theorem first_coord (c : Dev nD) : Layout.meshLin [2, 2] c.val [0] = c.val / 2 := by revert c; decide

/-- Device `c`'s block of the argument is plane `c / 2`. -/
theorem plane (y : Whole) (c : Dev nD) (r q : ℕ) (hr : r < 4096) (hq : q < 2048) (p : Fin 2) (hp : p.val = c.val / 2) :
    Layout.blockN ⟨3, ![1, 4096, 2048]⟩ ⟨3, ![2, 4096, 2048]⟩ (Layout.meshBlock [2, 2] ![[0], [], []] c) y (by decide) (xIx r q hr hq)
      = y (ix3 p ⟨r, hr⟩ ⟨q, hq⟩) := by
  rw [Layout.blockN_apply]
  refine congrArg y (funext fun a => Fin.ext ?_)
  match a with
  | ⟨0, _⟩ => show Layout.meshLin [2, 2] c.val [0] * 1 + 0 = p.val; rw [first_coord, hp]; omega
  | ⟨1, _⟩ => show 0 * 4096 + r = r; omega
  | ⟨2, _⟩ => show 0 * 2048 + q = q; omega

variable (m : (ℓ : Loc nD τ sig) → Buf (Elt Ideal) ℓ) (y : Whole)

/-- If every device holds its block of the whole argument, its result is its block of the sum. -/
theorem out_block (hm : ∀ c : Dev nD, X m c = Layout.blockN ⟨3, ![1, 4096, 2048]⟩ ⟨3, ![2, 4096, 2048]⟩ (Layout.meshBlock [2, 2] ![[0], [], []] c) y)
    (c : Dev nD) :
    OUT m c = Layout.blockN ⟨2, ![4096, 1024]⟩ ⟨2, ![4096, 2048]⟩ (Layout.meshBlock [2, 2] ![[], [0]] c) (total y) := by
  funext i
  have hk : (maker c i).val / 2 = c.val / 2 := by
    unfold maker
    split
    · rfl
    · exact yp_div c
  have hi : (i 0).val < 4096 := (i 0).isLt
  have hq : 1024 * (c.val / 2) + (i 1).val < 2048 := by have : (i 1).val < 1024 := (i 1).isLt; have := dev_lt c; omega
  rw [Layout.blockN_apply, total_apply]
  have hj : ∀ (h : Layout.TilesN ⟨2, ![4096, 1024]⟩ ⟨2, ![4096, 2048]⟩ _) (p : Fin 2),
      (ix3 p (h.idx (Layout.meshBlock [2, 2] ![[], [0]] c) i 0) (h.idx (Layout.meshBlock [2, 2] ![[], [0]] c) i 1) : Cert.ReferenceIdeal.S2x4096x2048.Idx)
        = ix3 p ⟨(i 0).val, hi⟩ ⟨1024 * (c.val / 2) + (i 1).val, hq⟩ := fun h p => by
    refine funext fun a => Fin.ext ?_
    match a with
    | ⟨0, _⟩ => rfl
    | ⟨1, _⟩ => show 0 * 4096 + (i 0).val = (i 0).val; omega
    | ⟨2, _⟩ => show Layout.meshLin [2, 2] c.val [0] * 1024 + (i 1).val = 1024 * (c.val / 2) + (i 1).val; rw [first_coord, Nat.mul_comm]
  rw [hj, hj]
  show X m (xp (maker c i)) (xIx (i 0).val (1024 * (c.val / 2) + (i 1).val) hi hq) + X m (maker c i) (xIx (i 0).val (1024 * (c.val / 2) + (i 1).val) hi hq) = _
  have hx := xp_div (maker c i)
  rcases (show c.val / 2 = 0 ∨ c.val / 2 = 1 by have := dev_lt c; omega) with h | h
  · rw [hm, hm, plane y _ _ _ hi hq 1 (by omega), plane y _ _ _ hi hq 0 (by omega), add_comm]
  · rw [hm, hm, plane y _ _ _ hi hq 0 (by omega), plane y _ _ _ hi hq 1 (by omega)]

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's run ends with the arguments unchanged and every semaphore at zero. -/
theorem quiescent_kernel : Cert.quiescent_Kernel := fun m g _ =>
  (θ_run Cert.Kernel.defs _ _).mono (fun _ h => ⟨fun c => (h.1 c).2, h.2⟩) (Cert.Kernel.Exchange.run_main (F := Bits) m g)

/-- So does the idealized kernel's. -/
theorem quiescent_kernelIdeal : Cert.quiescent_KernelIdeal := fun m g _ =>
  (θ_run Cert.KernelIdeal.defs _ _).mono (fun _ h => ⟨fun c => (h.1 c).2, h.2⟩) (Cert.KernelIdeal.Exchange.run_main (F := Ideal) m g)

/-- So does the reference's, which names no semaphore. -/
theorem quiescent_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Each device's result is its block of the reference's sum. -/
theorem algebraic : Cert.algebraic_KernelIdeal_ReferenceIdeal := fun m g m' g' _ hm =>
  ⟨Cert.Value.total (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (Cert.Value.out_block m _ hm c), (h.1 c).2⟩)
      (Cert.KernelIdeal.Exchange.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  quiescent_kernel, quiescent_kernelIdeal, quiescent_reference, trivial, algebraic⟩

end Cert.Proof

end
